-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv127" .f32 0x3C010204#32 ((127⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S4096x2048 : Shape := ⟨2, ![4096, 2048]⟩
abbrev S512x2048 : Shape := ⟨2, ![512, 2048]⟩
abbrev S8x512x512 : Shape := ⟨3, ![8, 512, 512]⟩
abbrev S2x512x2048 : Shape := ⟨3, ![2, 512, 2048]⟩
abbrev S8x8x128 : Shape := ⟨3, ![8, 8, 128]⟩
abbrev S2 : Shape := ⟨1, ![2]⟩
abbrev S8 : Shape := ⟨1, ![8]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x2048 : Shape := ⟨3, ![1, 512, 2048]⟩
abbrev S1x1x1 : Shape := ⟨3, ![1, 1, 1]⟩
abbrev S8x128 : Shape := ⟨2, ![8, 128]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S4096x512, .bf16⟩
  | .local _ .vmem, ⟨3, _⟩ => ⟨S8x512x512, .bf16⟩
  | .local _ .vmem, ⟨4, _⟩ => ⟨S2x512x2048, .f32⟩
  | .local _ .vmem, ⟨5, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_67 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  ![v111.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_76 : BitVec 32 := 0#32
  let c0_i32_77 : BitVec 32 := 0#32
  ![v2.toNat, 0, 0]
def k0_off4 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  let c512_i32 : BitVec 32 := 512#32
  let v112 : BitVec 32 := Scalar.muli v111 c512_i32
  let c0_i32_78 : BitVec 32 := 0#32
  ![v112.toNat, 0]
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v101 : BitVec 32 := Scalar.addi v2 c1_i32_67
  let c8_i32_68 : BitVec 32 := 8#32
  let c0_i32_69 : BitVec 32 := 0#32
  let v102 : BitVec 1 := Scalar.cmpi .eq c8_i32_68 c0_i32_69
  let c1_i32_70 : BitVec 32 := 1#32
  let v103 : BitVec 32 := Scalar.select v102 c1_i32_70 c8_i32_68
  let v104 : BitVec 32 := Scalar.remsi v101 v103
  let c0_i32_72 : BitVec 32 := 0#32
  let v106 : BitVec 1 := Scalar.cmpi .slt v104 c0_i32_72
  let c0_i32_73 : BitVec 32 := 0#32
  let v107 : BitVec 1 := Scalar.cmpi .slt v103 c0_i32_73
  let v108 : BitVec 1 := Scalar.xori v106 v107
  let c0_i32_71 : BitVec 32 := 0#32
  let v105 : BitVec 1 := Scalar.cmpi .ne v104 c0_i32_71
  let v109 : BitVec 1 := Scalar.andi v108 v105
  let v110 : BitVec 32 := Scalar.addi v104 v103
  let v111 : BitVec 32 := Scalar.select v109 v110 v104
  let c1_i32_74 : BitVec 32 := 1#32
  let v113 : BitVec 32 := Scalar.muli v111 c1_i32_74
  let v114 : BitVec 32 := Scalar.addi c0_i32_75 v113
  v114.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_79 : BitVec 32 := 2#32
  let v122 : BitVec 32 := Scalar.addi v2 c2_i32_79
  let c8_i32_80 : BitVec 32 := 8#32
  let c0_i32_81 : BitVec 32 := 0#32
  let v123 : BitVec 1 := Scalar.cmpi .eq c8_i32_80 c0_i32_81
  let c1_i32_82 : BitVec 32 := 1#32
  let v124 : BitVec 32 := Scalar.select v123 c1_i32_82 c8_i32_80
  let v125 : BitVec 32 := Scalar.remsi v122 v124
  let c0_i32_84 : BitVec 32 := 0#32
  let v127 : BitVec 1 := Scalar.cmpi .slt v125 c0_i32_84
  let c0_i32_85 : BitVec 32 := 0#32
  let v128 : BitVec 1 := Scalar.cmpi .slt v124 c0_i32_85
  let v129 : BitVec 1 := Scalar.xori v127 v128
  let c0_i32_83 : BitVec 32 := 0#32
  let v126 : BitVec 1 := Scalar.cmpi .ne v125 c0_i32_83
  let v130 : BitVec 1 := Scalar.andi v129 v126
  let v131 : BitVec 32 := Scalar.addi v125 v124
  let v132 : BitVec 32 := Scalar.select v130 v131 v125
  let c1_i32_87 : BitVec 32 := 1#32
  let v134 : BitVec 32 := Scalar.muli v132 c1_i32_87
  let v135 : BitVec 32 := Scalar.addi c0_i32_88 v134
  v135.toNat
def k0_dev10 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_92 : BitVec 32 := 3#32
  let v143 : BitVec 32 := Scalar.addi v2 c3_i32_92
  let c8_i32_93 : BitVec 32 := 8#32
  let c0_i32_94 : BitVec 32 := 0#32
  let v144 : BitVec 1 := Scalar.cmpi .eq c8_i32_93 c0_i32_94
  let c1_i32_95 : BitVec 32 := 1#32
  let v145 : BitVec 32 := Scalar.select v144 c1_i32_95 c8_i32_93
  let v146 : BitVec 32 := Scalar.remsi v143 v145
  let c0_i32_97 : BitVec 32 := 0#32
  let v148 : BitVec 1 := Scalar.cmpi .slt v146 c0_i32_97
  let c0_i32_98 : BitVec 32 := 0#32
  let v149 : BitVec 1 := Scalar.cmpi .slt v145 c0_i32_98
  let v150 : BitVec 1 := Scalar.xori v148 v149
  let c0_i32_96 : BitVec 32 := 0#32
  let v147 : BitVec 1 := Scalar.cmpi .ne v146 c0_i32_96
  let v151 : BitVec 1 := Scalar.andi v150 v147
  let v152 : BitVec 32 := Scalar.addi v146 v145
  let v153 : BitVec 32 := Scalar.select v151 v152 v146
  let c1_i32_100 : BitVec 32 := 1#32
  let v155 : BitVec 32 := Scalar.muli v153 c1_i32_100
  let v156 : BitVec 32 := Scalar.addi c0_i32_101 v155
  v156.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_105 : BitVec 32 := 4#32
  let v164 : BitVec 32 := Scalar.addi v2 c4_i32_105
  let c8_i32_106 : BitVec 32 := 8#32
  let c0_i32_107 : BitVec 32 := 0#32
  let v165 : BitVec 1 := Scalar.cmpi .eq c8_i32_106 c0_i32_107
  let c1_i32_108 : BitVec 32 := 1#32
  let v166 : BitVec 32 := Scalar.select v165 c1_i32_108 c8_i32_106
  let v167 : BitVec 32 := Scalar.remsi v164 v166
  let c0_i32_110 : BitVec 32 := 0#32
  let v169 : BitVec 1 := Scalar.cmpi .slt v167 c0_i32_110
  let c0_i32_111 : BitVec 32 := 0#32
  let v170 : BitVec 1 := Scalar.cmpi .slt v166 c0_i32_111
  let v171 : BitVec 1 := Scalar.xori v169 v170
  let c0_i32_109 : BitVec 32 := 0#32
  let v168 : BitVec 1 := Scalar.cmpi .ne v167 c0_i32_109
  let v172 : BitVec 1 := Scalar.andi v171 v168
  let v173 : BitVec 32 := Scalar.addi v167 v166
  let v174 : BitVec 32 := Scalar.select v172 v173 v167
  let c1_i32_113 : BitVec 32 := 1#32
  let v176 : BitVec 32 := Scalar.muli v174 c1_i32_113
  let v177 : BitVec 32 := Scalar.addi c0_i32_114 v176
  v177.toNat
def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_118 : BitVec 32 := 5#32
  let v185 : BitVec 32 := Scalar.addi v2 c5_i32_118
  let c8_i32_119 : BitVec 32 := 8#32
  let c0_i32_120 : BitVec 32 := 0#32
  let v186 : BitVec 1 := Scalar.cmpi .eq c8_i32_119 c0_i32_120
  let c1_i32_121 : BitVec 32 := 1#32
  let v187 : BitVec 32 := Scalar.select v186 c1_i32_121 c8_i32_119
  let v188 : BitVec 32 := Scalar.remsi v185 v187
  let c0_i32_123 : BitVec 32 := 0#32
  let v190 : BitVec 1 := Scalar.cmpi .slt v188 c0_i32_123
  let c0_i32_124 : BitVec 32 := 0#32
  let v191 : BitVec 1 := Scalar.cmpi .slt v187 c0_i32_124
  let v192 : BitVec 1 := Scalar.xori v190 v191
  let c0_i32_122 : BitVec 32 := 0#32
  let v189 : BitVec 1 := Scalar.cmpi .ne v188 c0_i32_122
  let v193 : BitVec 1 := Scalar.andi v192 v189
  let v194 : BitVec 32 := Scalar.addi v188 v187
  let v195 : BitVec 32 := Scalar.select v193 v194 v188
  let c1_i32_126 : BitVec 32 := 1#32
  let v197 : BitVec 32 := Scalar.muli v195 c1_i32_126
  let v198 : BitVec 32 := Scalar.addi c0_i32_127 v197
  v198.toNat
def k0_dev13 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_131 : BitVec 32 := 6#32
  let v206 : BitVec 32 := Scalar.addi v2 c6_i32_131
  let c8_i32_132 : BitVec 32 := 8#32
  let c0_i32_133 : BitVec 32 := 0#32
  let v207 : BitVec 1 := Scalar.cmpi .eq c8_i32_132 c0_i32_133
  let c1_i32_134 : BitVec 32 := 1#32
  let v208 : BitVec 32 := Scalar.select v207 c1_i32_134 c8_i32_132
  let v209 : BitVec 32 := Scalar.remsi v206 v208
  let c0_i32_136 : BitVec 32 := 0#32
  let v211 : BitVec 1 := Scalar.cmpi .slt v209 c0_i32_136
  let c0_i32_137 : BitVec 32 := 0#32
  let v212 : BitVec 1 := Scalar.cmpi .slt v208 c0_i32_137
  let v213 : BitVec 1 := Scalar.xori v211 v212
  let c0_i32_135 : BitVec 32 := 0#32
  let v210 : BitVec 1 := Scalar.cmpi .ne v209 c0_i32_135
  let v214 : BitVec 1 := Scalar.andi v213 v210
  let v215 : BitVec 32 := Scalar.addi v209 v208
  let v216 : BitVec 32 := Scalar.select v214 v215 v209
  let c1_i32_139 : BitVec 32 := 1#32
  let v218 : BitVec 32 := Scalar.muli v216 c1_i32_139
  let v219 : BitVec 32 := Scalar.addi c0_i32_140 v218
  v219.toNat
def k0_dev14 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_144 : BitVec 32 := 7#32
  let v227 : BitVec 32 := Scalar.addi v2 c7_i32_144
  let c8_i32_145 : BitVec 32 := 8#32
  let c0_i32_146 : BitVec 32 := 0#32
  let v228 : BitVec 1 := Scalar.cmpi .eq c8_i32_145 c0_i32_146
  let c1_i32_147 : BitVec 32 := 1#32
  let v229 : BitVec 32 := Scalar.select v228 c1_i32_147 c8_i32_145
  let v230 : BitVec 32 := Scalar.remsi v227 v229
  let c0_i32_149 : BitVec 32 := 0#32
  let v232 : BitVec 1 := Scalar.cmpi .slt v230 c0_i32_149
  let c0_i32_150 : BitVec 32 := 0#32
  let v233 : BitVec 1 := Scalar.cmpi .slt v229 c0_i32_150
  let v234 : BitVec 1 := Scalar.xori v232 v233
  let c0_i32_148 : BitVec 32 := 0#32
  let v231 : BitVec 1 := Scalar.cmpi .ne v230 c0_i32_148
  let v235 : BitVec 1 := Scalar.andi v234 v231
  let v236 : BitVec 32 := Scalar.addi v230 v229
  let v237 : BitVec 32 := Scalar.select v235 v236 v230
  let c1_i32_152 : BitVec 32 := 1#32
  let v239 : BitVec 32 := Scalar.muli v237 c1_i32_152
  let v240 : BitVec 32 := Scalar.addi c0_i32_153 v239
  v240.toNat
def k0_off5 (d0 : Dev nD) (c0_i32_157 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v248 : BitVec 32 := Scalar.addi v2 c0_i32_157
  let c8_i32_158 : BitVec 32 := 8#32
  let c0_i32_159 : BitVec 32 := 0#32
  let v249 : BitVec 1 := Scalar.cmpi .eq c8_i32_158 c0_i32_159
  let c1_i32_160 : BitVec 32 := 1#32
  let v250 : BitVec 32 := Scalar.select v249 c1_i32_160 c8_i32_158
  let v251 : BitVec 32 := Scalar.remsi v248 v250
  let c0_i32_162 : BitVec 32 := 0#32
  let v253 : BitVec 1 := Scalar.cmpi .slt v251 c0_i32_162
  let c0_i32_163 : BitVec 32 := 0#32
  let v254 : BitVec 1 := Scalar.cmpi .slt v250 c0_i32_163
  let v255 : BitVec 1 := Scalar.xori v253 v254
  let c0_i32_161 : BitVec 32 := 0#32
  let v252 : BitVec 1 := Scalar.cmpi .ne v251 c0_i32_161
  let v256 : BitVec 1 := Scalar.andi v255 v252
  let v257 : BitVec 32 := Scalar.addi v251 v250
  let v258 : BitVec 32 := Scalar.select v256 v257 v251
  let c512_i32_164 : BitVec 32 := 512#32
  let v259 : BitVec 32 := Scalar.muli v258 c512_i32_164
  let c0_i32_169 : BitVec 32 := 0#32
  ![v259.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_196 : BitVec 32 := 512#32
  let v299 : BitVec 32 := Scalar.muli v2 c512_i32_196
  let v300 : Index := Scalar.indexCast v299
  let c0_197 : Index := 0#32
  ![v300.toNat, 0]
def k0_off7 (d0 : Dev nD) (c1_i32_216 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v324 : BitVec 32 := Scalar.addi v2 c1_i32_216
  let c8_i32_217 : BitVec 32 := 8#32
  let c0_i32_218 : BitVec 32 := 0#32
  let v325 : BitVec 1 := Scalar.cmpi .eq c8_i32_217 c0_i32_218
  let c1_i32_219 : BitVec 32 := 1#32
  let v326 : BitVec 32 := Scalar.select v325 c1_i32_219 c8_i32_217
  let v327 : BitVec 32 := Scalar.remsi v324 v326
  let c0_i32_221 : BitVec 32 := 0#32
  let v329 : BitVec 1 := Scalar.cmpi .slt v327 c0_i32_221
  let c0_i32_222 : BitVec 32 := 0#32
  let v330 : BitVec 1 := Scalar.cmpi .slt v326 c0_i32_222
  let v331 : BitVec 1 := Scalar.xori v329 v330
  let c0_i32_220 : BitVec 32 := 0#32
  let v328 : BitVec 1 := Scalar.cmpi .ne v327 c0_i32_220
  let v332 : BitVec 1 := Scalar.andi v331 v328
  let v333 : BitVec 32 := Scalar.addi v327 v326
  let v334 : BitVec 32 := Scalar.select v332 v333 v327
  let c0_i32_238 : BitVec 32 := 0#32
  let c0_i32_239 : BitVec 32 := 0#32
  ![v334.toNat, 0, 0]
def k0_off8 (d0 : Dev nD) (c1_i32_216 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v324 : BitVec 32 := Scalar.addi v2 c1_i32_216
  let c8_i32_217 : BitVec 32 := 8#32
  let c0_i32_218 : BitVec 32 := 0#32
  let v325 : BitVec 1 := Scalar.cmpi .eq c8_i32_217 c0_i32_218
  let c1_i32_219 : BitVec 32 := 1#32
  let v326 : BitVec 32 := Scalar.select v325 c1_i32_219 c8_i32_217
  let v327 : BitVec 32 := Scalar.remsi v324 v326
  let c0_i32_221 : BitVec 32 := 0#32
  let v329 : BitVec 1 := Scalar.cmpi .slt v327 c0_i32_221
  let c0_i32_222 : BitVec 32 := 0#32
  let v330 : BitVec 1 := Scalar.cmpi .slt v326 c0_i32_222
  let v331 : BitVec 1 := Scalar.xori v329 v330
  let c0_i32_220 : BitVec 32 := 0#32
  let v328 : BitVec 1 := Scalar.cmpi .ne v327 c0_i32_220
  let v332 : BitVec 1 := Scalar.andi v331 v328
  let v333 : BitVec 32 := Scalar.addi v327 v326
  let v334 : BitVec 32 := Scalar.select v332 v333 v327
  let v359 : Index := Scalar.indexCast v334
  let c0_242 : Index := 0#32
  let c0_243 : Index := 0#32
  ![v359.toNat, 0, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v739 : Index := Scalar.indexCast v2
  let c0_535 : Index := 0#32
  let c0_536 : Index := 0#32
  ![v739.toNat, 0, 0]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_546 : BitVec 32 := 0#32
  let c0_i32_547 : BitVec 32 := 0#32
  ![v2.toNat, 0, 0]
def k0_dev15 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_537 : BitVec 32 := 1#32
  let v743 : BitVec 32 := Scalar.addi v2 c1_i32_537
  let c8_i32_538 : BitVec 32 := 8#32
  let c0_i32_539 : BitVec 32 := 0#32
  let v744 : BitVec 1 := Scalar.cmpi .eq c8_i32_538 c0_i32_539
  let c1_i32_540 : BitVec 32 := 1#32
  let v745 : BitVec 32 := Scalar.select v744 c1_i32_540 c8_i32_538
  let v746 : BitVec 32 := Scalar.remsi v743 v745
  let c0_i32_542 : BitVec 32 := 0#32
  let v748 : BitVec 1 := Scalar.cmpi .slt v746 c0_i32_542
  let c0_i32_543 : BitVec 32 := 0#32
  let v749 : BitVec 1 := Scalar.cmpi .slt v745 c0_i32_543
  let v750 : BitVec 1 := Scalar.xori v748 v749
  let c0_i32_541 : BitVec 32 := 0#32
  let v747 : BitVec 1 := Scalar.cmpi .ne v746 c0_i32_541
  let v751 : BitVec 1 := Scalar.andi v750 v747
  let v752 : BitVec 32 := Scalar.addi v746 v745
  let v753 : BitVec 32 := Scalar.select v751 v752 v746
  let c1_i32_544 : BitVec 32 := 1#32
  let v754 : BitVec 32 := Scalar.muli v753 c1_i32_544
  let v755 : BitVec 32 := Scalar.addi c0_i32_545 v754
  v755.toNat
def k0_dev16 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_550 : BitVec 32 := 2#32
  let v764 : BitVec 32 := Scalar.addi v2 c2_i32_550
  let c8_i32_551 : BitVec 32 := 8#32
  let c0_i32_552 : BitVec 32 := 0#32
  let v765 : BitVec 1 := Scalar.cmpi .eq c8_i32_551 c0_i32_552
  let c1_i32_553 : BitVec 32 := 1#32
  let v766 : BitVec 32 := Scalar.select v765 c1_i32_553 c8_i32_551
  let v767 : BitVec 32 := Scalar.remsi v764 v766
  let c0_i32_555 : BitVec 32 := 0#32
  let v769 : BitVec 1 := Scalar.cmpi .slt v767 c0_i32_555
  let c0_i32_556 : BitVec 32 := 0#32
  let v770 : BitVec 1 := Scalar.cmpi .slt v766 c0_i32_556
  let v771 : BitVec 1 := Scalar.xori v769 v770
  let c0_i32_554 : BitVec 32 := 0#32
  let v768 : BitVec 1 := Scalar.cmpi .ne v767 c0_i32_554
  let v772 : BitVec 1 := Scalar.andi v771 v768
  let v773 : BitVec 32 := Scalar.addi v767 v766
  let v774 : BitVec 32 := Scalar.select v772 v773 v767
  let c1_i32_557 : BitVec 32 := 1#32
  let v775 : BitVec 32 := Scalar.muli v774 c1_i32_557
  let v776 : BitVec 32 := Scalar.addi c0_i32_558 v775
  v776.toNat
def k0_dev17 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_563 : BitVec 32 := 3#32
  let v785 : BitVec 32 := Scalar.addi v2 c3_i32_563
  let c8_i32_564 : BitVec 32 := 8#32
  let c0_i32_565 : BitVec 32 := 0#32
  let v786 : BitVec 1 := Scalar.cmpi .eq c8_i32_564 c0_i32_565
  let c1_i32_566 : BitVec 32 := 1#32
  let v787 : BitVec 32 := Scalar.select v786 c1_i32_566 c8_i32_564
  let v788 : BitVec 32 := Scalar.remsi v785 v787
  let c0_i32_568 : BitVec 32 := 0#32
  let v790 : BitVec 1 := Scalar.cmpi .slt v788 c0_i32_568
  let c0_i32_569 : BitVec 32 := 0#32
  let v791 : BitVec 1 := Scalar.cmpi .slt v787 c0_i32_569
  let v792 : BitVec 1 := Scalar.xori v790 v791
  let c0_i32_567 : BitVec 32 := 0#32
  let v789 : BitVec 1 := Scalar.cmpi .ne v788 c0_i32_567
  let v793 : BitVec 1 := Scalar.andi v792 v789
  let v794 : BitVec 32 := Scalar.addi v788 v787
  let v795 : BitVec 32 := Scalar.select v793 v794 v788
  let c1_i32_570 : BitVec 32 := 1#32
  let v796 : BitVec 32 := Scalar.muli v795 c1_i32_570
  let v797 : BitVec 32 := Scalar.addi c0_i32_571 v796
  v797.toNat
def k0_dev18 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_576 : BitVec 32 := 4#32
  let v806 : BitVec 32 := Scalar.addi v2 c4_i32_576
  let c8_i32_577 : BitVec 32 := 8#32
  let c0_i32_578 : BitVec 32 := 0#32
  let v807 : BitVec 1 := Scalar.cmpi .eq c8_i32_577 c0_i32_578
  let c1_i32_579 : BitVec 32 := 1#32
  let v808 : BitVec 32 := Scalar.select v807 c1_i32_579 c8_i32_577
  let v809 : BitVec 32 := Scalar.remsi v806 v808
  let c0_i32_581 : BitVec 32 := 0#32
  let v811 : BitVec 1 := Scalar.cmpi .slt v809 c0_i32_581
  let c0_i32_582 : BitVec 32 := 0#32
  let v812 : BitVec 1 := Scalar.cmpi .slt v808 c0_i32_582
  let v813 : BitVec 1 := Scalar.xori v811 v812
  let c0_i32_580 : BitVec 32 := 0#32
  let v810 : BitVec 1 := Scalar.cmpi .ne v809 c0_i32_580
  let v814 : BitVec 1 := Scalar.andi v813 v810
  let v815 : BitVec 32 := Scalar.addi v809 v808
  let v816 : BitVec 32 := Scalar.select v814 v815 v809
  let c1_i32_583 : BitVec 32 := 1#32
  let v817 : BitVec 32 := Scalar.muli v816 c1_i32_583
  let v818 : BitVec 32 := Scalar.addi c0_i32_584 v817
  v818.toNat
def k0_dev19 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_589 : BitVec 32 := 5#32
  let v827 : BitVec 32 := Scalar.addi v2 c5_i32_589
  let c8_i32_590 : BitVec 32 := 8#32
  let c0_i32_591 : BitVec 32 := 0#32
  let v828 : BitVec 1 := Scalar.cmpi .eq c8_i32_590 c0_i32_591
  let c1_i32_592 : BitVec 32 := 1#32
  let v829 : BitVec 32 := Scalar.select v828 c1_i32_592 c8_i32_590
  let v830 : BitVec 32 := Scalar.remsi v827 v829
  let c0_i32_594 : BitVec 32 := 0#32
  let v832 : BitVec 1 := Scalar.cmpi .slt v830 c0_i32_594
  let c0_i32_595 : BitVec 32 := 0#32
  let v833 : BitVec 1 := Scalar.cmpi .slt v829 c0_i32_595
  let v834 : BitVec 1 := Scalar.xori v832 v833
  let c0_i32_593 : BitVec 32 := 0#32
  let v831 : BitVec 1 := Scalar.cmpi .ne v830 c0_i32_593
  let v835 : BitVec 1 := Scalar.andi v834 v831
  let v836 : BitVec 32 := Scalar.addi v830 v829
  let v837 : BitVec 32 := Scalar.select v835 v836 v830
  let c1_i32_596 : BitVec 32 := 1#32
  let v838 : BitVec 32 := Scalar.muli v837 c1_i32_596
  let v839 : BitVec 32 := Scalar.addi c0_i32_597 v838
  v839.toNat
def k0_dev20 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_602 : BitVec 32 := 6#32
  let v848 : BitVec 32 := Scalar.addi v2 c6_i32_602
  let c8_i32_603 : BitVec 32 := 8#32
  let c0_i32_604 : BitVec 32 := 0#32
  let v849 : BitVec 1 := Scalar.cmpi .eq c8_i32_603 c0_i32_604
  let c1_i32_605 : BitVec 32 := 1#32
  let v850 : BitVec 32 := Scalar.select v849 c1_i32_605 c8_i32_603
  let v851 : BitVec 32 := Scalar.remsi v848 v850
  let c0_i32_607 : BitVec 32 := 0#32
  let v853 : BitVec 1 := Scalar.cmpi .slt v851 c0_i32_607
  let c0_i32_608 : BitVec 32 := 0#32
  let v854 : BitVec 1 := Scalar.cmpi .slt v850 c0_i32_608
  let v855 : BitVec 1 := Scalar.xori v853 v854
  let c0_i32_606 : BitVec 32 := 0#32
  let v852 : BitVec 1 := Scalar.cmpi .ne v851 c0_i32_606
  let v856 : BitVec 1 := Scalar.andi v855 v852
  let v857 : BitVec 32 := Scalar.addi v851 v850
  let v858 : BitVec 32 := Scalar.select v856 v857 v851
  let c1_i32_609 : BitVec 32 := 1#32
  let v859 : BitVec 32 := Scalar.muli v858 c1_i32_609
  let v860 : BitVec 32 := Scalar.addi c0_i32_610 v859
  v860.toNat
def k0_dev21 (d0 : Dev nD) : Nat :=
  let c0_i32_623 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_615 : BitVec 32 := 7#32
  let v869 : BitVec 32 := Scalar.addi v2 c7_i32_615
  let c8_i32_616 : BitVec 32 := 8#32
  let c0_i32_617 : BitVec 32 := 0#32
  let v870 : BitVec 1 := Scalar.cmpi .eq c8_i32_616 c0_i32_617
  let c1_i32_618 : BitVec 32 := 1#32
  let v871 : BitVec 32 := Scalar.select v870 c1_i32_618 c8_i32_616
  let v872 : BitVec 32 := Scalar.remsi v869 v871
  let c0_i32_620 : BitVec 32 := 0#32
  let v874 : BitVec 1 := Scalar.cmpi .slt v872 c0_i32_620
  let c0_i32_621 : BitVec 32 := 0#32
  let v875 : BitVec 1 := Scalar.cmpi .slt v871 c0_i32_621
  let v876 : BitVec 1 := Scalar.xori v874 v875
  let c0_i32_619 : BitVec 32 := 0#32
  let v873 : BitVec 1 := Scalar.cmpi .ne v872 c0_i32_619
  let v877 : BitVec 1 := Scalar.andi v876 v873
  let v878 : BitVec 32 := Scalar.addi v872 v871
  let v879 : BitVec 32 := Scalar.select v877 v878 v872
  let c1_i32_622 : BitVec 32 := 1#32
  let v880 : BitVec 32 := Scalar.muli v879 c1_i32_622
  let v881 : BitVec 32 := Scalar.addi c0_i32_623 v880
  v881.toNat
def k0_off11 (d0 : Dev nD) (c1_i32_628 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v890 : BitVec 32 := Scalar.addi v2 c1_i32_628
  let c8_i32_629 : BitVec 32 := 8#32
  let c0_i32_630 : BitVec 32 := 0#32
  let v891 : BitVec 1 := Scalar.cmpi .eq c8_i32_629 c0_i32_630
  let c1_i32_631 : BitVec 32 := 1#32
  let v892 : BitVec 32 := Scalar.select v891 c1_i32_631 c8_i32_629
  let v893 : BitVec 32 := Scalar.remsi v890 v892
  let c0_i32_633 : BitVec 32 := 0#32
  let v895 : BitVec 1 := Scalar.cmpi .slt v893 c0_i32_633
  let c0_i32_634 : BitVec 32 := 0#32
  let v896 : BitVec 1 := Scalar.cmpi .slt v892 c0_i32_634
  let v897 : BitVec 1 := Scalar.xori v895 v896
  let c0_i32_632 : BitVec 32 := 0#32
  let v894 : BitVec 1 := Scalar.cmpi .ne v893 c0_i32_632
  let v898 : BitVec 1 := Scalar.andi v897 v894
  let v899 : BitVec 32 := Scalar.addi v893 v892
  let v900 : BitVec 32 := Scalar.select v898 v899 v893
  let c0_i32_637 : BitVec 32 := 0#32
  let c0_i32_638 : BitVec 32 := 0#32
  ![v900.toNat, 0, 0]
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv127" => some ((127⁻¹ : ℝ) : EReal)
  | _ => none
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Base.lean ====
/-
# Where things are: devices, semaphores, and the pieces of the buffers

Eight devices in a ring. Device `c`'s `k`-th peer is `peer c k = c + k (mod 8)`; every loop of the kernel
visits the peers in the order `k = 1, …, 7`. This file names the peers, the kernel's semaphores, and the pieces of
its buffers (the row blocks of `x` and of `w`, the slots of the exchanged blocks and of the exchanged maxima), and
proves that the addresses the program computes are these.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Peers -/

set_option backward.proofsInPublic true in
/-- The device `k` places after `c` in the ring. -/
def peer (c : Dev nD) (k : ℕ) : Dev nD := ⟨(c.val + k) % 8, Nat.mod_lt _ (by decide)⟩

set_option backward.proofsInPublic true in
/-- How many places after `c` the device `t` stands. -/
def dist (c t : Dev nD) : Fin 8 := ⟨(t.val + 8 - c.val) % 8, Nat.mod_lt _ (by decide)⟩

theorem dist_peer : ∀ (c : Dev nD) (k : Fin 8), dist c (peer c k.val) = k := by decide +kernel
theorem peer_dist : ∀ (c t : Dev nD), peer c (dist c t).val = t := by decide +kernel
theorem peer_zero : ∀ c : Dev nD, peer c 0 = c := by decide +kernel
theorem peer_ne : ∀ (c : Dev nD) (k : Fin 8), k ≠ 0 → peer c k.val ≠ c := by decide +kernel

/-- Counting around the ring from `c` numbers the devices. -/
def around (c : Dev nD) : Fin 8 ≃ Dev nD := ⟨fun k => peer c k.val, dist c, dist_peer c, peer_dist c⟩

/-! ## The buffers and their pieces -/

abbrev xM : Memref sig .tc .vmem S4096x512 .f32 := Memref.whole cc0_stg0_0
abbrev wM : Memref sig .tc .hbm S4096x2048 .f32 := Memref.whole main_arg1
abbrev oM : Memref sig .tc .vmem S512x2048 .f32 := Memref.whole cc0_stg1_0
abbrev xlM : Memref sig .tc .vmem S4096x512 .bf16 := Memref.whole cc0_scratch0
abbrev xgM : Memref sig .tc .vmem S8x512x512 .bf16 := Memref.whole cc0_scratch1
abbrev wbM : Memref sig .tc .vmem S2x512x2048 .f32 := Memref.whole cc0_scratch2
abbrev amM : Memref sig .tc .vmem S8x8x128 .f32 := Memref.whole cc0_scratch3

theorem xl_inb (t : Dev nD) : ∀ a, (![512 * t.val, 0] : Fin 2 → ℕ) a + S512x512.size a ≤ S4096x512.size a := by
  revert t; decide +kernel
theorem xg_inb (s : Dev nD) : ∀ a, (![s.val, 0, 0] : Fin 3 → ℕ) a + S1x512x512.size a ≤ S8x512x512.size a := by
  revert s; decide +kernel
theorem wb_inb (b : Fin 2) : ∀ a, (![b.val, 0, 0] : Fin 3 → ℕ) a + S1x512x2048.size a ≤ S2x512x2048.size a := by
  revert b; decide +kernel
theorem w_inb (t : Dev nD) : ∀ a, (![512 * t.val, 0] : Fin 2 → ℕ) a + S512x2048.size a ≤ S4096x2048.size a := by
  revert t; decide +kernel
theorem am_inb (s : Dev nD) : ∀ a, (![s.val, 0, 0] : Fin 3 → ℕ) a + S1x8x128.size a ≤ S8x8x128.size a := by
  revert s; decide +kernel

abbrev xlR (t : Dev nD) : Rect S4096x512 := Rect.unit (s := S4096x512) ![512 * t.val, 0] S512x512.size (xl_inb t)
abbrev xgR (s : Dev nD) : Rect S8x512x512 := Rect.unit (s := S8x512x512) ![s.val, 0, 0] S1x512x512.size (xg_inb s)
abbrev wbR (b : Fin 2) : Rect S2x512x2048 := Rect.unit (s := S2x512x2048) ![b.val, 0, 0] S1x512x2048.size (wb_inb b)
abbrev wR (t : Dev nD) : Rect S4096x2048 := Rect.unit (s := S4096x2048) ![512 * t.val, 0] S512x2048.size (w_inb t)
abbrev amR (s : Dev nD) : Rect S8x8x128 := Rect.unit (s := S8x8x128) ![s.val, 0, 0] S1x8x128.size (am_inb s)

/-- Row block `t` of the rounded `x`. -/
abbrev xlV (t : Dev nD) : Memref sig .tc .vmem S512x512 .bf16 := xlM.slice (xlR t) (fun _ => rfl)
/-- Slot `s` of the exchanged blocks. -/
abbrev xgV (s : Dev nD) : Memref sig .tc .vmem S512x512 .bf16 :=
  (xgM.slice (xgR s) (fun _ => rfl)).squeeze S512x512 squeezes_S1x512x512_S512x512
/-- Half `b` of the two-slot buffer of `w`. -/
abbrev wbV (b : Fin 2) : Memref sig .tc .vmem S512x2048 .f32 :=
  (wbM.slice (wbR b) (fun _ => rfl)).squeeze S512x2048 squeezes_S1x512x2048_S512x2048
/-- Row block `t` of `w`. -/
abbrev wV (t : Dev nD) : Memref sig .tc .hbm S512x2048 .f32 := wM.slice (wR t) (fun _ => rfl)
/-- Slot `s` of the exchanged maxima. -/
abbrev amV (s : Dev nD) : Memref sig .tc .vmem S8x128 .f32 :=
  (amM.slice (amR s) (fun _ => rfl)).squeeze S8x128 squeezes_S1x8x128_S8x128

/-! ## The semaphores -/

/-- The runtime's barrier semaphore. -/
abbrev barS : Sem sig := (SemArray.scalar (sig.barrier 0 rfl) : Sems sig S_).sem

set_option backward.proofsInPublic true in
def wSem (b : Fin 2) : DmaSem sig := ⟨2 + b.val, by have := b.isLt; show _ < 36; omega⟩
set_option backward.proofsInPublic true in
def sendSem (t : Dev nD) : DmaSem sig := ⟨4 + t.val, by have : t.val < 8 := t.isLt; show _ < 36; omega⟩
set_option backward.proofsInPublic true in
def recvSem (t : Dev nD) : DmaSem sig := ⟨12 + t.val, by have : t.val < 8 := t.isLt; show _ < 36; omega⟩
set_option backward.proofsInPublic true in
def asendSem (t : Dev nD) : DmaSem sig := ⟨20 + t.val, by have : t.val < 8 := t.isLt; show _ < 36; omega⟩
set_option backward.proofsInPublic true in
def arecvSem (t : Dev nD) : DmaSem sig := ⟨28 + t.val, by have : t.val < 8 := t.isLt; show _ < 36; omega⟩

/-- What a semaphore is for. -/
inductive SKind
  | bar | w (b : Fin 2) | send (t : Dev nD) | recv (s : Dev nD) | asend (t : Dev nD) | arecv (s : Dev nD) | other
deriving DecidableEq

set_option backward.proofsInPublic true in
/-- The use of each of the program's semaphores. -/
def kind : SemLoc sig → SKind
  | .reg s => if s = barS then .bar else .other
  | .dma q =>
    if q.val < 2 then .other else if q.val < 4 then .w ⟨(q.val - 2) % 2, Nat.mod_lt _ (by decide)⟩
    else if q.val < 12 then .send ⟨(q.val - 4) % 8, Nat.mod_lt _ (by decide)⟩
    else if q.val < 20 then .recv ⟨(q.val - 12) % 8, Nat.mod_lt _ (by decide)⟩
    else if q.val < 28 then .asend ⟨(q.val - 20) % 8, Nat.mod_lt _ (by decide)⟩
    else .arecv ⟨(q.val - 28) % 8, Nat.mod_lt _ (by decide)⟩

theorem kind_bar : kind (.reg barS) = .bar := by decide +kernel
theorem kind_w : ∀ b, kind (.dma (wSem b)) = .w b := by decide +kernel
theorem kind_send : ∀ t, kind (.dma (sendSem t)) = .send t := by decide +kernel
theorem kind_recv : ∀ t, kind (.dma (recvSem t)) = .recv t := by decide +kernel
theorem kind_asend : ∀ t, kind (.dma (asendSem t)) = .asend t := by decide +kernel
theorem kind_arecv : ∀ t, kind (.dma (arecvSem t)) = .arecv t := by decide +kernel

/-! ## What the program computes, at the names above -/

theorem semw_eq0 : ((cc0_scratch4.slice (Rect.unit (s := S2) ![0] S1.size inb_S2_S1_0)).squeeze S_ squeezes_S1_S_ : DmaSems sig S_).sem = wSem 0 := by
  decide +kernel
theorem semw_eq1 : ((cc0_scratch4.slice (Rect.unit (s := S2) ![1] S1.size inb_S2_S1_1)).squeeze S_ squeezes_S1_S_ : DmaSems sig S_).sem = wSem 1 := by
  decide +kernel

theorem send_sem : ∀ (c : Dev nD) (r : Fin 7),
    ((cc0_scratch5.slice (Rect.unit (s := S8) (k0_off1 c (BitVec.ofNat 32 (1 + r.val))) S1.size (k0_off1_inb c r))).squeeze S_ squeezes_S1_S_ : DmaSems sig S_).sem
      = sendSem (peer c (1 + r.val)) := by
  decide +kernel
theorem recv_own_sem : ∀ (c : Dev nD),
    ((cc0_scratch6.slice (Rect.unit (s := S8) (k0_off2 c) S1.size (k0_off2_inb c))).squeeze S_ squeezes_S1_S_ : DmaSems sig S_).sem = recvSem c := by
  decide +kernel
theorem recv_sem : ∀ (c : Dev nD) (r : Fin 7),
    ((cc0_scratch6.slice (Rect.unit (s := S8) (k0_off1 c (BitVec.ofNat 32 (1 + r.val))) S1.size (k0_off1_inb c r))).squeeze S_ squeezes_S1_S_ : DmaSems sig S_).sem
      = recvSem (peer c (1 + r.val)) := by
  decide +kernel
theorem asend_sem : ∀ (c : Dev nD) (r : Fin 7),
    ((cc0_scratch7.slice (Rect.unit (s := S8) (k0_off1 c (BitVec.ofNat 32 (1 + r.val))) S1.size (k0_off1_inb c r))).squeeze S_ squeezes_S1_S_ : DmaSems sig S_).sem
      = asendSem (peer c (1 + r.val)) := by
  decide +kernel
theorem arecv_own_sem : ∀ (c : Dev nD),
    ((cc0_scratch8.slice (Rect.unit (s := S8) (k0_off2 c) S1.size (k0_off2_inb c))).squeeze S_ squeezes_S1_S_ : DmaSems sig S_).sem = arecvSem c := by
  decide +kernel
theorem arecv_sem : ∀ (c : Dev nD) (r : Fin 7),
    ((cc0_scratch8.slice (Rect.unit (s := S8) (k0_off1 c (BitVec.ofNat 32 (1 + r.val))) S1.size (k0_off1_inb c r))).squeeze S_ squeezes_S1_S_ : DmaSems sig S_).sem
      = arecvSem (peer c (1 + r.val)) := by
  decide +kernel

theorem off4_eq : ∀ (c : Dev nD) (r : Fin 7), k0_off4 c (BitVec.ofNat 32 (1 + r.val)) = ![512 * (peer c (1 + r.val)).val, 0] := by decide +kernel
theorem off5_eq : ∀ (c : Dev nD) (r : Fin 8), k0_off5 c (BitVec.ofNat 32 r.val) = ![512 * (peer c r.val).val, 0] := by decide +kernel
theorem off7_eq : ∀ (c : Dev nD) (r : Fin 7), k0_off7 c (BitVec.ofNat 32 (1 + r.val)) = ![(peer c (1 + r.val)).val, 0, 0] := by decide +kernel
theorem off8_eq : ∀ (c : Dev nD) (r : Fin 7), k0_off8 c (BitVec.ofNat 32 (1 + r.val)) = ![(peer c (1 + r.val)).val, 0, 0] := by decide +kernel
theorem off11_eq : ∀ (c : Dev nD) (r : Fin 7), k0_off11 c (BitVec.ofNat 32 (1 + r.val)) = ![(peer c (1 + r.val)).val, 0, 0] := by decide +kernel

theorem dev1_eq : ∀ c : Dev nD, (⟨k0_dev1 c, k0_dev1_lt c⟩ : Dev nD) = peer c 1 := by decide +kernel
theorem dev2_eq : ∀ c : Dev nD, (⟨k0_dev2 c, k0_dev2_lt c⟩ : Dev nD) = peer c 2 := by decide +kernel
theorem dev3_eq : ∀ c : Dev nD, (⟨k0_dev3 c, k0_dev3_lt c⟩ : Dev nD) = peer c 3 := by decide +kernel
theorem dev4_eq : ∀ c : Dev nD, (⟨k0_dev4 c, k0_dev4_lt c⟩ : Dev nD) = peer c 4 := by decide +kernel
theorem dev5_eq : ∀ c : Dev nD, (⟨k0_dev5 c, k0_dev5_lt c⟩ : Dev nD) = peer c 5 := by decide +kernel
theorem dev6_eq : ∀ c : Dev nD, (⟨k0_dev6 c, k0_dev6_lt c⟩ : Dev nD) = peer c 6 := by decide +kernel
theorem dev7_eq : ∀ c : Dev nD, (⟨k0_dev7 c, k0_dev7_lt c⟩ : Dev nD) = peer c 7 := by decide +kernel
theorem dev8_eq : ∀ c : Dev nD, (⟨k0_dev8 c, k0_dev8_lt c⟩ : Dev nD) = peer c 1 := by decide +kernel
theorem dev9_eq : ∀ c : Dev nD, (⟨k0_dev9 c, k0_dev9_lt c⟩ : Dev nD) = peer c 2 := by decide +kernel
theorem dev10_eq : ∀ c : Dev nD, (⟨k0_dev10 c, k0_dev10_lt c⟩ : Dev nD) = peer c 3 := by decide +kernel
theorem dev11_eq : ∀ c : Dev nD, (⟨k0_dev11 c, k0_dev11_lt c⟩ : Dev nD) = peer c 4 := by decide +kernel
theorem dev12_eq : ∀ c : Dev nD, (⟨k0_dev12 c, k0_dev12_lt c⟩ : Dev nD) = peer c 5 := by decide +kernel
theorem dev13_eq : ∀ c : Dev nD, (⟨k0_dev13 c, k0_dev13_lt c⟩ : Dev nD) = peer c 6 := by decide +kernel
theorem dev14_eq : ∀ c : Dev nD, (⟨k0_dev14 c, k0_dev14_lt c⟩ : Dev nD) = peer c 7 := by decide +kernel
theorem dev15_eq : ∀ c : Dev nD, (⟨k0_dev15 c, k0_dev15_lt c⟩ : Dev nD) = peer c 1 := by decide +kernel
theorem dev16_eq : ∀ c : Dev nD, (⟨k0_dev16 c, k0_dev16_lt c⟩ : Dev nD) = peer c 2 := by decide +kernel
theorem dev17_eq : ∀ c : Dev nD, (⟨k0_dev17 c, k0_dev17_lt c⟩ : Dev nD) = peer c 3 := by decide +kernel
theorem dev18_eq : ∀ c : Dev nD, (⟨k0_dev18 c, k0_dev18_lt c⟩ : Dev nD) = peer c 4 := by decide +kernel
theorem dev19_eq : ∀ c : Dev nD, (⟨k0_dev19 c, k0_dev19_lt c⟩ : Dev nD) = peer c 5 := by decide +kernel
theorem dev20_eq : ∀ c : Dev nD, (⟨k0_dev20 c, k0_dev20_lt c⟩ : Dev nD) = peer c 6 := by decide +kernel
theorem dev21_eq : ∀ c : Dev nD, (⟨k0_dev21 c, k0_dev21_lt c⟩ : Dev nD) = peer c 7 := by decide +kernel

end Cert.KProof
-- ==== Proof.Sched.lean ====
/-
# The protocol

Each device gives every peer the right to write two of its slots (a signal on the peer's barrier semaphore), waits
for the same from its seven peers, then copies a row block of its rounded `x` to each peer and later its maximum.
A device's semaphores are used once each, except the two of the local copies of `w`, which are used four times
each. This file states what each semaphore's signals hand over (`Rd`), in the vocabulary of the rounds library, and
what the values are.
-/
module

public import proofs.«01_k».proof.Proof.Base

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev wCell (c : Dev nD) (b : Fin 2) : GSem nD τ sig := ((c : Thread nD τ), .dma (wSem b))
abbrev sendCell (c t : Dev nD) : GSem nD τ sig := ((c : Thread nD τ), .dma (sendSem t))
abbrev recvCell (c s : Dev nD) : GSem nD τ sig := ((c : Thread nD τ), .dma (recvSem s))
abbrev asendCell (c t : Dev nD) : GSem nD τ sig := ((c : Thread nD τ), .dma (asendSem t))
abbrev arecvCell (c s : Dev nD) : GSem nD τ sig := ((c : Thread nD τ), .dma (arecvSem s))

/-- The credit of one exchanged block, of one block of `w`, and of one exchanged maximum. -/
def NX : ℕ := (xlV (0 : Fin 8)).view.dmaCredit
def NW : ℕ := (wbV 0).view.dmaCredit
def NA : ℕ := (amV (0 : Fin 8)).view.dmaCredit
theorem NX_pos : 0 < NX := View.dmaCredit_pos _ h_S512x512
theorem NW_pos : 0 < NW := View.dmaCredit_pos _ h_S512x2048
theorem NA_pos : 0 < NA := View.dmaCredit_pos _ (by decide)

/-! ## Contents -/

/-- The block of `x` in device `c`'s staging buffer. -/
def xstg (c : Dev nD) : (cc0_stg0_0 : Ref sig .tc).ty.Contents (Elt F) :=
  (win0_0.blk (0 : Fin 1)).view.read (Elt F) ((s₀ m ρ).mem ((c : Thread nD τ).loc main_arg0))
/-- The same block rounded. -/
def xlAll (c : Dev nD) : (cc0_scratch0 : Ref sig .tc).ty.Contents (Elt F) := k0_pay1 (xstg m ρ c)
/-- The rows device `c` sends to `t`. -/
def xsent (c t : Dev nD) : S512x512.Idx → Elt F .bf16 := fun j => xlAll m ρ c ((xlR t).emb j)
/-- The whole of `w` on device `c`. -/
def wAt (c : Dev nD) : (main_arg1 : Ref sig .tc).ty.Contents (Elt F) := m ((c : Thread nD τ).loc main_arg1)
/-- Row block `t` of it. -/
def wblk (c t : Dev nD) : S512x2048.Idx → Elt F .f32 := fun j => wAt m c ((wR t).emb j)
/-- A block with a leading axis of size one. -/
def unsqX (X : S512x512.Idx → Elt F .bf16) : S1x512x512.Idx → Elt F .bf16 :=
  fun j => X (Shape.reshapeEquiv squeezes_S1x512x512_S512x512.numel_eq.symm j)
def unsqW (X : S512x2048.Idx → Elt F .f32) : S1x512x2048.Idx → Elt F .f32 :=
  fun j => X (Shape.reshapeEquiv squeezes_S1x512x2048_S512x2048.numel_eq.symm j)

/-- What device `c` has accumulated after the block of the peer `k` places on. -/
def acc (c : Dev nD) : ℕ → FVec F S512x2048 .f32
  | 0 => k0_pay2 (xsent m ρ c c) (unsqW (wblk m c c))
  | k + 1 => k0_pay3 (unsqX (xsent m ρ (peer c (k + 1)) c)) (unsqW (wblk m c (peer c (k + 1)))) (acc c k)

/-- Device `c`'s maximum, as it stores it in its own slot; -/
def amx (c : Dev nD) : FVec F S1x8x128 .f32 := k0_pay12 (acc m ρ c 7)
/-- and as the exchange carries it. -/
def am (c : Dev nD) : S8x128.Idx → Elt F .f32 := fun j => amx m ρ c (Shape.reshapeEquiv squeezes_S1x8x128_S8x128.numel_eq j)
/-- All the devices' maxima. -/
def amAll : (cc0_scratch3 : Ref sig .tc).ty.Contents (Elt F) :=
  fun i : S8x8x128.Idx => amx m ρ (i 0) (Fin.cons (⟨0, Nat.one_pos⟩ : Fin 1) (Fin.cons (i 1) (Fin.cons (i 2) finZeroElim)) : S1x8x128.Idx)

/-- The kernel's result on device `c`. -/
def outAt (c : Dev nD) : (cc0_stg1_0 : Ref sig .tc).ty.Contents (Elt F) := k0_pay13 (amAll m ρ) (acc m ρ c 7)

/-! ## The share of its own maximum a device lends to each copy -/

/-- What is left of a device's own slot when it sends its `k`-th copy; -/
def rest : ℕ → PosShare TreeShare
  | 0 => fullShare
  | k + 1 => (rest k).right
/-- and what that copy reads it with. -/
def lent (k : ℕ) : PosShare TreeShare := (rest k).left

/-! ## The schedule -/

/-- Memref `M` of device `c` at full share, whatever it holds. -/
def free (c : Dev nD) {sp : Space} {sh : Shape} {e : EltTy} (M : Memref sig .tc sp sh e) : sProp 𝕄 :=
  iprop(∃ X : sh.Idx → Elt F e, owns (c : Thread nD τ) M fullShare X)

omit [FloatOps F] [Named F] in
instance free_storable (c : Dev nD) {sp : Space} {sh : Shape} {e : EltTy} (M : Memref sig .tc sp sh e) :
    BI.Storable (upEmb : UEmb _ 𝕄) (free (F := F) c M) := by unfold free; infer_instance

/-- A signal from `d` to `c` hands over `d`'s two slots that `c` will fill. -/
def barPay (c d : Dev nD) : sProp 𝕄 := iprop(free d (xgV c) ∗ free d (amV c))
/-- A copy of a block of `w` hands back the block and the filled half of the buffer. -/
def wPay (c : Dev nD) (b : Fin 2) (t : Dev nD) : sProp 𝕄 :=
  iprop(owns (c : Thread nD τ) (wbV b) fullShare (wblk m c t) ∗ owns (c : Thread nD τ) (wV t) fullShare (wblk m c t))
def sendPay (c t : Dev nD) : sProp 𝕄 := owns (c : Thread nD τ) (xlV t) fullShare (xsent m ρ c t)
def recvPay (c s : Dev nD) : sProp 𝕄 := owns (c : Thread nD τ) (xgV s) fullShare (xsent m ρ s c)
def asendPay (c t : Dev nD) : sProp 𝕄 := owns (c : Thread nD τ) (amV c) (lent (dist c t).val) (am m ρ c)
def arecvPay (c s : Dev nD) : sProp 𝕄 := owns (c : Thread nD τ) (amV s) fullShare (am m ρ s)

set_option backward.proofsInPublic true in
/-- The name of a cell's only duty. -/
abbrev dz : Dev nD := ⟨0, by decide⟩

/-- The units a semaphore's duties contribute. -/
def amt : SKind → ℕ
  | .bar => 1
  | .w _ => NW
  | .send _ => NX
  | .recv _ => NX
  | .asend _ => NA
  | .arecv _ => NA
  | .other => 1

theorem amt_pos : ∀ κ, 0 < amt κ
  | .bar => Nat.one_pos
  | .w _ => NW_pos
  | .send _ => NX_pos
  | .recv _ => NX_pos
  | .asend _ => NA_pos
  | .arecv _ => NA_pos
  | .other => Nat.one_pos

/-- The duties of round `r` of device `c`'s semaphore of kind `κ`. -/
def dut (c : Dev nD) (r : ℕ) : SKind → Finset (Dev nD)
  | .bar => if r = 0 then Finset.univ.erase c else ∅
  | .w _ => if r < 4 then {dz} else ∅
  | .send t => if r = 0 ∧ t ≠ c then {dz} else ∅
  | .recv t => if r = 0 ∧ t ≠ c then {dz} else ∅
  | .asend t => if r = 0 ∧ t ≠ c then {dz} else ∅
  | .arecv t => if r = 0 ∧ t ≠ c then {dz} else ∅
  | .other => ∅

/-- What they hand over. -/
def pay (c : Dev nD) (r : ℕ) (d : Dev nD) : SKind → sProp 𝕄
  | .bar => barPay c d
  | .w b => wPay m c b (peer c (2 * r + b.val))
  | .send t => sendPay m ρ c t
  | .recv t => recvPay m ρ c t
  | .asend t => asendPay m ρ c t
  | .arecv t => arecvPay m ρ c t
  | .other => iprop(emp)

/-- The schedule: every core's semaphores, by their use. -/
def Rd : Rounds.Schedule (GSem nD τ sig) (Dev nD) 𝕄 where
  duties g r := if g.1.2 = .tc then dut g.1.1 r (kind g.2) else ∅
  unitless _ := False
  amount g _ _ := amt (kind g.2)
  payload g r d := pay m ρ g.1.1 r d (kind g.2)
  amount_pos g _ _ _ := amt_pos (kind g.2)

instance pay_storable (c : Dev nD) (r : ℕ) (d : Dev nD) (κ : SKind) : BI.Storable (upEmb : UEmb _ 𝕄) (pay (F := F) m ρ c r d κ) := by
  cases κ <;> simp only [pay, barPay, wPay, sendPay, recvPay, asendPay, arecvPay] <;> infer_instance
instance Rd_payload_storable (g : GSem nD τ sig) (r : ℕ) (d : Dev nD) :
    BI.Storable (upEmb : UEmb _ 𝕄) ((Rd (F := F) m ρ).payload g r d) := pay_storable m ρ _ _ _ _

section Tables
variable (c t : Dev nD)

theorem duties_tc (sm : SemLoc sig) (r : ℕ) : (Rd (F := F) m ρ).duties ((c : Thread nD τ), sm) r = dut c r (kind sm) := by dsimp only [Rd]; exact if_pos rfl

theorem duties_bar : (Rd (F := F) m ρ).duties (barCell c) 0 = Finset.univ.erase c := by rw [duties_tc, kind_bar]; rfl
theorem duties_w (b : Fin 2) (r : ℕ) (hr : r < 4) : (Rd (F := F) m ρ).duties (wCell c b) r = {dz} := by
  rw [duties_tc, kind_w]; exact if_pos hr
theorem duties_send (h : t ≠ c) : (Rd (F := F) m ρ).duties (sendCell c t) 0 = {dz} := by
  rw [duties_tc, kind_send]; exact if_pos ⟨rfl, h⟩
theorem duties_recv (h : t ≠ c) : (Rd (F := F) m ρ).duties (recvCell c t) 0 = {dz} := by
  rw [duties_tc, kind_recv]; exact if_pos ⟨rfl, h⟩
theorem duties_asend (h : t ≠ c) : (Rd (F := F) m ρ).duties (asendCell c t) 0 = {dz} := by
  rw [duties_tc, kind_asend]; exact if_pos ⟨rfl, h⟩
theorem duties_arecv (h : t ≠ c) : (Rd (F := F) m ρ).duties (arecvCell c t) 0 = {dz} := by
  rw [duties_tc, kind_arecv]; exact if_pos ⟨rfl, h⟩

theorem amount_tc (sm : SemLoc sig) (r : ℕ) (d : Dev nD) : (Rd (F := F) m ρ).amount ((c : Thread nD τ), sm) r d = amt (kind sm) := rfl
theorem amount_bar (r : ℕ) (d : Dev nD) : (Rd (F := F) m ρ).amount (barCell c) r d = 1 := by rw [amount_tc, kind_bar]; rfl
theorem amount_w (b : Fin 2) (r : ℕ) (d : Dev nD) : (Rd (F := F) m ρ).amount (wCell c b) r d = NW := by rw [amount_tc, kind_w]; rfl
theorem amount_send (r : ℕ) (d : Dev nD) : (Rd (F := F) m ρ).amount (sendCell c t) r d = NX := by rw [amount_tc, kind_send]; rfl
theorem amount_recv (r : ℕ) (d : Dev nD) : (Rd (F := F) m ρ).amount (recvCell c t) r d = NX := by rw [amount_tc, kind_recv]; rfl
theorem amount_asend (r : ℕ) (d : Dev nD) : (Rd (F := F) m ρ).amount (asendCell c t) r d = NA := by rw [amount_tc, kind_asend]; rfl
theorem amount_arecv (r : ℕ) (d : Dev nD) : (Rd (F := F) m ρ).amount (arecvCell c t) r d = NA := by rw [amount_tc, kind_arecv]; rfl

theorem payload_tc (sm : SemLoc sig) (r : ℕ) (d : Dev nD) : (Rd (F := F) m ρ).payload ((c : Thread nD τ), sm) r d = pay m ρ c r d (kind sm) := rfl
theorem payload_bar (r : ℕ) (d : Dev nD) : (Rd (F := F) m ρ).payload (barCell c) r d = barPay c d := by rw [payload_tc, kind_bar]; rfl
theorem payload_w (b : Fin 2) (r : ℕ) (d : Dev nD) : (Rd (F := F) m ρ).payload (wCell c b) r d = wPay m c b (peer c (2 * r + b.val)) := by
  rw [payload_tc, kind_w]; rfl
theorem payload_send (r : ℕ) (d : Dev nD) : (Rd (F := F) m ρ).payload (sendCell c t) r d = sendPay m ρ c t := by rw [payload_tc, kind_send]; rfl
theorem payload_recv (r : ℕ) (d : Dev nD) : (Rd (F := F) m ρ).payload (recvCell c t) r d = recvPay m ρ c t := by rw [payload_tc, kind_recv]; rfl
theorem payload_asend (r : ℕ) (d : Dev nD) : (Rd (F := F) m ρ).payload (asendCell c t) r d = asendPay m ρ c t := by rw [payload_tc, kind_asend]; rfl
theorem payload_arecv (r : ℕ) (d : Dev nD) : (Rd (F := F) m ρ).payload (arecvCell c t) r d = arecvPay m ρ c t := by rw [payload_tc, kind_arecv]; rfl

/-- A round with the one duty `dz` expects that duty's amount, -/
theorem expect_one {g : GSem nD τ sig} {r : ℕ} (h : (Rd (F := F) m ρ).duties g r = {dz}) :
    (Rd (F := F) m ρ).expect g r = (Rd (F := F) m ρ).amount g r dz := by
  unfold Schedule.expect Schedule.amountOf; rw [h, Finset.sum_singleton]
/-- and hands over that duty's payload. -/
theorem rest_one {g : GSem nD τ sig} {r : ℕ} (h : (Rd (F := F) m ρ).duties g r = {dz}) :
    bigSep ((Rd (F := F) m ρ).duties g r \ ∅) (fun d => (Rd (F := F) m ρ).payload g r d) = (Rd (F := F) m ρ).payload g r dz := by
  rw [Finset.sdiff_empty, h, bigSep_singleton]

theorem expect_bar : (Rd (F := F) m ρ).expect (barCell c) 0 = 7 := by
  unfold Schedule.expect Schedule.amountOf
  rw [duties_bar, Finset.sum_congr rfl fun d _ => amount_bar m ρ c 0 d, Finset.sum_const, Finset.card_erase_of_mem (Finset.mem_univ _), Finset.card_univ, smul_eq_mul]
  rfl

/-- After its last round no cell has a duty; a device's own index has none at all. -/
theorem duties_later (g : GSem nD τ sig) (r : ℕ) (hr : 4 ≤ r) : (Rd (F := F) m ρ).duties g r = ∅ := by
  show (if g.1.2 = .tc then dut g.1.1 r (kind g.2) else ∅) = ∅
  split
  · cases kind g.2 <;> simp only [dut] <;> rw [if_neg (by omega)]
  · rfl

end Tables

/-! ## What each device owes at launch; the levels -/

/-- What device `c` owes its peers' barrier cells from the `n`-th on; -/
def dB (c : Dev nD) (n : ℕ) : CellTallies nD τ sig Unit := ∑ k ∈ Finset.Ico n 8, tallyAt (barCell (peer c k)) () 1
/-- their cells for `c`'s blocks; -/
def dX (c : Dev nD) (n : ℕ) : CellTallies nD τ sig Unit := ∑ k ∈ Finset.Ico n 8, tallyAt (recvCell (peer c k) c) () NX
/-- and their cells for `c`'s maximum. -/
def dA (c : Dev nD) (n : ℕ) : CellTallies nD τ sig Unit := ∑ k ∈ Finset.Ico n 8, tallyAt (arecvCell (peer c k) c) () NA
def O₀ (c : Dev nD) : CellTallies nD τ sig Unit := dB c 1 + dX c 1 + dA c 1

theorem dB_peel (c : Dev nD) {n : ℕ} (h : n < 8) : dB c n = tallyAt (barCell (peer c n)) () 1 + dB c (n + 1) := Finset.sum_eq_sum_Ico_succ_bot h _
theorem dX_peel (c : Dev nD) {n : ℕ} (h : n < 8) : dX c n = tallyAt (recvCell (peer c n) c) () NX + dX c (n + 1) := Finset.sum_eq_sum_Ico_succ_bot h _
theorem dA_peel (c : Dev nD) {n : ℕ} (h : n < 8) : dA c n = tallyAt (arecvCell (peer c n) c) () NA + dA c (n + 1) := Finset.sum_eq_sum_Ico_succ_bot h _
theorem dB_end (c : Dev nD) : dB c 8 = 0 := by unfold dB; rw [Finset.Ico_self, Finset.sum_empty]
theorem dX_end (c : Dev nD) : dX c 8 = 0 := by unfold dX; rw [Finset.Ico_self, Finset.sum_empty]
theorem dA_end (c : Dev nD) : dA c 8 = 0 := by unfold dA; rw [Finset.Ico_self, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore's use. -/
def lvk : SKind → ℕ
  | .bar => 1
  | .recv _ => 2
  | .arecv _ => 3
  | _ => 0
/-- Barrier cells at 1, cells for blocks at 2, cells for maxima at 3, everything else at 0. -/
def lv (g : GSem nD τ sig) (_ : Unit) : ℕ := lvk (kind g.2)

/-- Every cell owed to by `O` is a core's, above level `l`. -/
def Above (l : ℕ) (O : CellTallies nD τ sig Unit) : Prop := ∀ g u, 0 < O g u → g.1.2 = .tc ∧ l < lv g u

theorem above_zero (l : ℕ) : Above l 0 := fun g u h => absurd h (Nat.lt_irrefl 0)
theorem above_add {l : ℕ} {O O' : CellTallies nD τ sig Unit} (h : Above l O) (h' : Above l O') : Above l (O + O') := fun g u hg => by
  rw [Pi.add_apply, Finsupp.add_apply] at hg
  rcases Nat.eq_zero_or_pos (O g u) with hz | hp
  · exact h' g u (by omega)
  · exact h g u hp
theorem above_tally {l : ℕ} (c : Dev nD) (sm : SemLoc sig) (k : ℕ) (h : l < lvk (kind sm)) : Above l (tallyAt ((c : Thread nD τ), sm) () k) := fun g u hg => by
  rw [tallyAt_apply] at hg
  by_cases he : g = ((c : Thread nD τ), sm) ∧ u = ()
  · rw [he.1]; exact ⟨rfl, h⟩
  · rw [if_neg he] at hg; exact absurd hg (Nat.lt_irrefl 0)
theorem above_sum {l : ℕ} (S : Finset ℕ) (f : ℕ → CellTallies nD τ sig Unit) (h : ∀ k, Above l (f k)) : Above l (∑ k ∈ S, f k) := by
  classical
  induction S using Finset.induction_on with
  | empty => rw [Finset.sum_empty]; exact above_zero l
  | insert a S ha ih => rw [Finset.sum_insert ha]; exact above_add (h a) ih
theorem above_dB (c : Dev nD) (n : ℕ) : Above 0 (dB c n) := above_sum _ _ fun k => above_tally _ _ _ (by rw [kind_bar]; decide)
theorem above_dX (c : Dev nD) (n : ℕ) : Above 1 (dX c n) := above_sum _ _ fun k => above_tally _ _ _ (by rw [kind_recv]; exact Nat.lt_succ_self 1)
theorem above_dA (c : Dev nD) (n : ℕ) : Above 2 (dA c n) := above_sum _ _ fun k => above_tally _ _ _ (by rw [kind_arecv]; exact Nat.lt_succ_self 2)
theorem above_le {l l' : ℕ} (h : l ≤ l') {O : CellTallies nD τ sig Unit} (hO : Above l' O) : Above l O := fun g u hg =>
  ⟨(hO g u hg).1, lt_of_le_of_lt h (hO g u hg).2⟩
theorem above_O₀ (c : Dev nD) : Above 0 (O₀ c) :=
  above_add (above_add (above_dB c 1) (above_le (Nat.zero_le _) (above_dX c 1))) (above_le (Nat.zero_le _) (above_dA c 1))

omit [FloatOps F] [Named F] in
/-- A device may wait on a semaphore below everything it owes. -/
theorem mayWait (c : Dev nD) (sm : SemLoc sig) (l : ℕ) (O : CellTallies nD τ sig Unit) (hl : lvk (kind sm) ≤ l) (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hl)
    (fun g u hg => (hO g u hg).2)

end Cert.KProof
-- ==== Proof.Steps.lean ====
/-
# One lemma for each kind of step of the kernel

A signal, a copy to a peer, a local copy of a block of `w`, a wait, a load, a store: each is proved once, for any device
`c` and any peer (named by its place `n` in the ring after `c`), over families of resources indexed by that place. The
program's own addresses appear as variables with an equation, so that a step of the program is matched as it stands.
-/
module

public import proofs.«01_k».proof.Proof.Sched
public import Idealize.SL.BI.BigOpNat
public import Idealize.SL.ProofMode.BigOp

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (ρ : Dev nD → PrngReg)

/-! ## The cells' invariants -/

set_option backward.proofsInPublic true in
/-- The thirty-five semaphores of the protocol: the barrier's, then the scratch arrays in order. -/
def csem (k : Fin 35) : SemLoc sig :=
  if h : k.val = 0 then .reg barS else .dma ⟨k.val + 1, by have := k.isLt; show _ < 36; omega⟩
abbrev kcell (ck : Dev nD × Fin 35) : GSem nD τ sig := ((ck.1 : Thread nD τ), csem ck.2)

set_option backward.proofsInPublic true in
def ixW (b : Fin 2) : Fin 35 := ⟨1 + b.val, by have := b.isLt; omega⟩
set_option backward.proofsInPublic true in
def ixS (t : Dev nD) : Fin 35 := ⟨3 + t.val, by have : t.val < 8 := t.isLt; omega⟩
set_option backward.proofsInPublic true in
def ixR (t : Dev nD) : Fin 35 := ⟨11 + t.val, by have : t.val < 8 := t.isLt; omega⟩
set_option backward.proofsInPublic true in
def ixAS (t : Dev nD) : Fin 35 := ⟨19 + t.val, by have : t.val < 8 := t.isLt; omega⟩
set_option backward.proofsInPublic true in
def ixAR (t : Dev nD) : Fin 35 := ⟨27 + t.val, by have : t.val < 8 := t.isLt; omega⟩

theorem csem_bar : csem 0 = .reg barS := by decide +kernel
theorem csem_w : ∀ b, csem (ixW b) = .dma (wSem b) := by decide +kernel
theorem csem_send : ∀ t, csem (ixS t) = .dma (sendSem t) := by decide +kernel
theorem csem_recv : ∀ t, csem (ixR t) = .dma (recvSem t) := by decide +kernel
theorem csem_asend : ∀ t, csem (ixAS t) = .dma (asendSem t) := by decide +kernel
theorem csem_arecv : ∀ t, csem (ixAR t) = .dma (arecvSem t) := by decide +kernel

/-- A cell of the protocol: its invariant, under some name, and that its round 0 is reached. -/
def Cell (g : GSem nD τ sig) : sProp 𝕄 := iprop((∃ κ, cellInv ER (Rd m ρ) κ g) ∗ reached ER g 0)
instance Cell_persistent (g : GSem nD τ sig) : BI.Persistent (Cell m ρ g) := by unfold Cell; infer_instance
/-- All of them. -/
def Cells : sProp 𝕄 := bigSep Finset.univ fun ck : Dev nD × Fin 35 => Cell m ρ (kcell ck)
instance Cells_persistent : BI.Persistent (Cells m ρ) := by unfold Cells; infer_instance

theorem cell_at (c : Dev nD) (i : Fin 35) (sm : SemLoc sig) (h : csem i = sm) : Cells m ρ ⊢ Cell m ρ ((c : Thread nD τ), sm) := by
  subst h; exact bigSep_elim (Finset.mem_univ (c, i))
theorem cell_bar (c : Dev nD) : Cells m ρ ⊢ Cell m ρ (barCell c) := cell_at m ρ c 0 _ csem_bar
theorem cell_w (c : Dev nD) (b : Fin 2) : Cells m ρ ⊢ Cell m ρ (wCell c b) := cell_at m ρ c (ixW b) _ (csem_w b)
theorem cell_send (c t : Dev nD) : Cells m ρ ⊢ Cell m ρ (sendCell c t) := cell_at m ρ c (ixS t) _ (csem_send t)
theorem cell_recv (c t : Dev nD) : Cells m ρ ⊢ Cell m ρ (recvCell c t) := cell_at m ρ c (ixR t) _ (csem_recv t)
theorem cell_asend (c t : Dev nD) : Cells m ρ ⊢ Cell m ρ (asendCell c t) := cell_at m ρ c (ixAS t) _ (csem_asend t)
theorem cell_arecv (c t : Dev nD) : Cells m ρ ⊢ Cell m ρ (arecvCell c t) := cell_at m ρ c (ixAR t) _ (csem_arecv t)

/-- Device `c` owes `O`, having waited on whatever it has. -/
def OW (c : Dev nD) (O : CellTallies nD τ sig Unit) : sProp 𝕄 := iprop(∃ W : Waits sig Unit, owes (c : Thread nD τ) O W)

/-- Device `c` runs `p`, then `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (c : Dev nD) {α : Type} {Q : α → sProp (MT nD τ sig Unit (Elt F) ℕ UU ℕ)} {k : PUnit → Prog (TpuEff nD τ sig (Elt F) Λ₀ .tc) α}

omit [FloatOps F] [Named F] in
theorem credX {sp : Space} (v : View sig .tc sp S512x512 .bf16) : v.dmaCredit = NX := rfl

/-! ## The handshake -/

/-- What the signals from the `n`-th on need: the duty's token at the peer, and the two slots the peer will fill. -/
def Sig (n : ℕ) : sProp 𝕄 := bigSep (Finset.Ico n 8) fun k =>
  iprop(dutyTok ER (barCell (peer c k)) 0 c ∗ barPay (peer c k) c)

theorem peer_ne' (n : ℕ) (h1 : 1 ≤ n) (h8 : n < 8) : peer c n ≠ c :=
  peer_ne c ⟨n, h8⟩ (fun h => by have := congrArg Fin.val h; simp at this; omega)

/-- The signal to the `n`-th peer. -/
theorem st_signal (n : ℕ) (h1 : 1 ≤ n) (h8 : n < 8) (d : Dev nD) (hd : d = peer c n) (O : CellTallies nD τ sig Unit) :
    iprop(Cells m ρ ∗ Sig c n ∗ OW c (O + dB c n))
      ⊢ iprop((iprop(Sig c (n + 1) ∗ OW c (O + dB c (n + 1))) -∗ runs c (k ⟨⟩) Q)
          -∗ runs c (.op (.semSignal (Dev.tc d) barS 1) k) Q) := by
  subst hd
  unfold Sig OW
  rw [bigSep_Ico_succ_bot h8]
  iintro ⟨#HC, ⟨⟨Htok, Hpay⟩, Hs⟩, ⟨%W, HO⟩⟩ Hk
  ihave #Hc := (cell_bar m ρ (peer c n)) $$ HC
  unfold Cell
  icases Hc with ⟨⟨%κ, #Hi⟩, #Hr⟩
  iapply (Rounds.wp_signal 𝒱₀ ER (Rd m ρ) (c : Thread nD τ) none (dst := (peer c n : Thread nD τ)) (κ := κ)
      (d := c) (by rw [duties_bar]; exact Finset.mem_erase.mpr ⟨(peer_ne' c n h1 h8).symm, Finset.mem_univ _⟩)
      (amount_bar m ρ (peer c n) 0 c) () (O₀ := O + dB c n) (O + dB c (n + 1)) (by rw [dB_peel c h8]; abel)) $$ [HO Htok Hpay]
  · isplitr; · iexact Hi
    isplitl [HO]; · iexact HO
    isplitl [Htok]; · iexact Htok
    isplitl [Hpay]; · rw [payload_bar]; iexact Hpay
    iexact Hr
  iintro HO
  iapply Hk
  isplitl [Hs]; · iexact Hs
  iexists W; iexact HO

/-- A wait on the device's own cell `sm` that expects the whole of its open round: one lemma for every wait. -/
theorem st_wait {w : TpuEff nD τ sig (Elt F) Λ₀ .tc PUnit} {sm : SemLoc sig} {k' : ℕ} (R l : ℕ) (P : sProp 𝕄)
    (hw : ∀ K : PUnit → sProp 𝕄, wpE (defs₀ (F := F)) 𝒱₀ (c : Thread nD τ) none Set.univ w K = waitSpec (c : Thread nD τ) Set.univ sm k' K)
    (O : CellTallies nD τ sig Unit) (hl : lvk (kind sm) ≤ l) (hO : Above l O)
    (hk : k' = (Rd (F := F) m ρ).expect ((c : Thread nD τ), sm) R)
    (hP : bigSep ((Rd (F := F) m ρ).duties ((c : Thread nD τ), sm) R \ ∅) (fun d => (Rd (F := F) m ρ).payload ((c : Thread nD τ), sm) R d) ⊢ P) :
    iprop(Cell m ρ ((c : Thread nD τ), sm) ∗ levAts L lv ∗ cred (tallyAt ((c : Thread nD τ), sm) () k') ∗ atPos ER ((c : Thread nD τ), sm) R ∅ 0 ∗ OW c O)
      ⊢ iprop((iprop(P ∗ atPos ER ((c : Thread nD τ), sm) (R + 1) ∅ 0 ∗ reached ER ((c : Thread nD τ), sm) (R + 1) ∗ OW c O) -∗ runs c (k ⟨⟩) Q)
          -∗ runs c (.op w k) Q) := by
  unfold Cell OW
  iintro ⟨⟨⟨%κ, #Hi⟩, #Hr⟩, #Hlev, Hc, Hat, ⟨%W, HO⟩⟩ Hk
  iapply (Rounds.wp_wait_rest_token 𝒱₀ ER (Rd m ρ) (c : Thread nD τ) none (κ := κ) hw (Set.mem_univ _) () (O := O) (W := W) (R := R) (m := 0) (T := ∅)
      (by rw [Nat.zero_add]; exact hk)) $$ [Hc HO Hat]
  · isplitr; · iexact Hi
    isplitl [Hc]; · iexact Hc
    isplitl [HO]; · iexact HO
    isplitr; · iapply (mayWait c sm l O hl hO); iexact Hlev
    iexact Hat
  iintro ⟨HO, Hat, Hr', Hpay⟩
  iapply Hk
  isplitl [Hpay]; · iapply hP; iexact Hpay
  isplitl [Hat]; · iexact Hat
  isplitl [Hr']; · iexact Hr'
  iexists _; iexact HO

/-- Where the device's blocks may land, at its peers from the `n`-th on; -/
def DstX (n : ℕ) : sProp 𝕄 := bigSep (Finset.Ico n 8) fun k => free (peer c k) (xgV c)
/-- and its maxima. -/
def DstA (n : ℕ) : sProp 𝕄 := bigSep (Finset.Ico n 8) fun k => free (peer c k) (amV c)

omit [FloatOps F] [Named F] in
/-- A family over the devices, taken around the ring from `c`. -/
theorem around_bigSep (Φ : Dev nD → sProp 𝕄) : bigSep Finset.univ Φ = bigSep (Finset.Ico 0 8) fun k => Φ (peer c k) := by
  rw [bigSep_univ_equiv (around c) Φ]
  have h : (Finset.univ : Finset (Fin 8)).map Fin.valEmbedding = Finset.Ico 0 8 := by decide
  rw [← h, bigSep_map]
  rfl

omit [FloatOps F] [Named F] in
/-- The same over the other devices. -/
theorem around_erase (Φ : Dev nD → sProp 𝕄) : bigSep (Finset.univ.erase c) Φ = bigSep (Finset.Ico 1 8) fun k => Φ (peer c k) := by
  have h : Finset.univ.erase c = (Finset.Ico 1 8).image (peer c) := by revert c; decide +kernel
  have hinj : Set.InjOn (peer c) (Finset.Ico 1 8 : Finset ℕ) := by
    intro a ha b hb hab
    simp only [Finset.coe_Ico, Set.mem_Ico] at ha hb
    have ha' := dist_peer c ⟨a, ha.2⟩
    have hb' := dist_peer c ⟨b, hb.2⟩
    simp only at ha' hb'
    rw [hab] at ha'
    exact congrArg Fin.val (ha'.symm.trans hb')
  rw [h, Idealize.SL.BI.bigSep_image_of_injOn hinj]

/-- The handshake's wait: every peer has given the right to write its slots for `c`. -/
theorem st_barwait :
    iprop(Cells m ρ ∗ levAts L lv ∗ cred (tallyAt (barCell c) () 7) ∗ atPos ER (barCell c) 0 ∅ 0 ∗ OW c (dX c 1 + dA c 1))
      ⊢ iprop((iprop((DstX c 1 ∗ DstA c 1) ∗ atPos ER (barCell c) 1 ∅ 0 ∗ reached ER (barCell c) 1 ∗ OW c (dX c 1 + dA c 1)) -∗ runs c (k ⟨⟩) Q)
          -∗ runs c (.op (.semWait barS 7) k) Q) := by
  iintro ⟨#HC, #Hlev, Hc, Hat, HO⟩ Hk
  iapply (st_wait m ρ c 0 1 iprop(DstX c 1 ∗ DstA c 1) (wpE_semWait_eq 𝒱₀ (c : Thread nD τ) none Set.univ) (dX c 1 + dA c 1)
      (by rw [kind_bar]; exact Nat.le_refl 1) (above_add (above_dX c 1) (above_le (by decide) (above_dA c 1))) (expect_bar m ρ c).symm
      (by
        rw [Finset.sdiff_empty, duties_bar, bigSep_congr (fun d _ => payload_bar m ρ c 0 d)]
        unfold barPay DstX DstA
        rw [around_erase c, bigSep_sep'])) $$ [Hc Hat HO]
  · isplitr; · iapply (cell_bar m ρ c); iexact HC
    isplitr; · iexact Hlev
    isplitl [Hc]; · iexact Hc
    isplitl [Hat] <;> iassumption
  iexact Hk

/-! ## The copies of blocks to the peers -/

/-- What the copies from the `n`-th on need. -/
def SendP (n : ℕ) : sProp 𝕄 := bigSep (Finset.Ico n 8) fun k =>
  iprop(dutyTok ER (sendCell c (peer c k)) 0 dz ∗ dutyTok ER (recvCell (peer c k) c) 0 dz ∗ sendPay m ρ c (peer c k))
/-- The credit of the copies before the `n`-th, to be waited for. -/
def SentX (n : ℕ) : sProp 𝕄 := bigSep (Finset.Ico 1 n) fun k => cred (tallyAt (sendCell c (peer c k)) () NX)

end Steps

end Cert.KProof
-- ==== Proof.Copies.lean ====
/-
# The kernel's copies

One lemma for the copies of blocks to the peers, one for the copies of maxima, one for the local copies of blocks of
`w`.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Steps
variable (c : Dev nD) {α : Type} {Q : α → sProp (MT nD τ sig Unit (Elt F) ℕ UU ℕ)} {k : PUnit → Prog (TpuEff nD τ sig (Elt F) Λ₀ .tc) α}

/-- A copy to the peer `c'` of a piece of a buffer, read with share `q`: it pays the one duty of its own cell and the
one duty of the peer's. -/
theorem st_remote (c' : Dev nD) {s : Shape} {e : EltTy} (src dst : Memref sig .tc .vmem s e) (sS sR : DmaSem sig) {hsc} {hsrc} {hdst} {hsem}
    (N : ℕ) (hN : dst.view.dmaCredit = N) (q : PosShare TreeShare) (X : s.Idx → Elt F e) (O : CellTallies nD τ sig Unit)
    (hd₁ : (Rd (F := F) m ρ).duties ((c : Thread nD τ), .dma sS) 0 = {dz}) (hd₂ : (Rd (F := F) m ρ).duties ((c' : Thread nD τ), .dma sR) 0 = {dz})
    (hk₁ : (Rd (F := F) m ρ).amount ((c : Thread nD τ), .dma sS) 0 dz = N) (hk₂ : (Rd (F := F) m ρ).amount ((c' : Thread nD τ), .dma sR) 0 dz = N)
    (hp₁ : (Rd (F := F) m ρ).payload ((c : Thread nD τ), .dma sS) 0 dz = owns (c : Thread nD τ) src q X)
    (hp₂ : (Rd (F := F) m ρ).payload ((c' : Thread nD τ), .dma sR) 0 dz = owns (c' : Thread nD τ) dst fullShare X) :
    iprop(Cell m ρ ((c : Thread nD τ), .dma sS) ∗ Cell m ρ ((c' : Thread nD τ), .dma sR)
        ∗ dutyTok ER ((c : Thread nD τ), .dma sS) 0 dz ∗ dutyTok ER ((c' : Thread nD τ), .dma sR) 0 dz
        ∗ owns (c : Thread nD τ) src q X ∗ free c' dst ∗ OW c (O + tallyAt ((c' : Thread nD τ), .dma sR) () N))
      ⊢ iprop((iprop(cred (tallyAt ((c : Thread nD τ), .dma sS) () N) ∗ OW c O) -∗ runs c (k ⟨⟩) Q)
          -∗ runs c (.op (.enqueueDma src (.remote (Dev.tc c' : Thread nD τ) dst (.dma sS) hsc) (.dma sR) hsrc hdst hsem) k) Q) := by
  unfold Cell free OW owns
  iintro ⟨⟨⟨%κ₁, #Hi1⟩, #Hr1⟩, ⟨⟨%κ₂, #Hi2⟩, #Hr2⟩, Ht1, Ht2, ⟨%fs, %hfs, Hsrc⟩, ⟨%Y, %fd, -, Hdst⟩, ⟨%W, HO⟩⟩ Hk
  have hq₁ : (src.view.loc (c : Thread nD τ) ↦[src.view.set]{q} fs : sProp 𝕄) ⊢ (Rd (F := F) m ρ).payload ((c : Thread nD τ), .dma sS) 0 dz := by
    rw [hp₁]; unfold owns
    iintro H; iexists fs; isplitr; · ipureintro; exact hfs
    iexact H
  have hq₂ : (dst.view.loc (c' : Thread nD τ) ↦[dst.view.set]{fullShare} (dst.view.write (Elt F) fd (src.view.read (Elt F) fs) Finset.univ) : sProp 𝕄)
      ⊢ (Rd (F := F) m ρ).payload ((c' : Thread nD τ), .dma sR) 0 dz := by
    rw [hp₂]; unfold owns
    iintro H; iexists _; isplitr
    swap; · iexact H
    ipureintro; rw [View.read_write_univ]; exact hfs
  iapply (Rounds.wp_send_pointsTo 𝒱₀ ER (Rd m ρ) (c : Thread nD τ) none (c' := (c' : Thread nD τ)) (src := src) (dst := dst) (sS := .dma sS) (sem := .dma sR)
    (hsc := hsc) (hsrc := hsrc) (hdst := hdst) (hsem := hsem) (k := k) (κ₁ := κ₁) (κ₂ := κ₂)
    (r₁ := 0) (r₂ := 0) (d₁ := dz) (d₂ := dz) (fd := fd) (fs := fs) (q := q)
    (hd₁ ▸ Finset.mem_singleton_self _) (hd₂ ▸ Finset.mem_singleton_self _)
    () () N hN hk₁ hk₂ O rfl (W := W) hq₁ hq₂) $$ [Hsrc Hdst HO Ht1 Ht2]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcr, HO⟩
  iapply Hk
  isplitl [Hcr]; · iexact Hcr
  iexists W; iexact HO

/-- The copy of the `n`-th peer's row block into that peer's slot for `c`. -/
theorem st_send (n : ℕ) (h1 : 1 ≤ n) (h8 : n < 8) (d : Dev nD) (hd : d = peer c n)
    (o4 : Fin 2 → ℕ) (hi4 : ∀ a, o4 a + S512x512.size a ≤ S4096x512.size a) (ho4 : o4 = ![512 * (peer c n).val, 0])
    (o3 : Fin 3 → ℕ) (hi3 : ∀ a, o3 a + S1x512x512.size a ≤ S8x512x512.size a) (ho3 : o3 = ![c.val, 0, 0])
    (sS sR : DmaSem sig) (hsS : sS = sendSem (peer c n)) (hsR : sR = recvSem c)
    {hsc} {hsrc} {hdst} {hsem} (O : CellTallies nD τ sig Unit) :
    iprop(Cells m ρ ∗ SendP m ρ c n ∗ DstX c n ∗ SentX c n ∗ OW c (dX c n + O))
      ⊢ iprop((iprop(SendP m ρ c (n + 1) ∗ DstX c (n + 1) ∗ SentX c (n + 1) ∗ OW c (dX c (n + 1) + O)) -∗ runs c (k ⟨⟩) Q)
          -∗ runs c (.op (.enqueueDma (xlM.slice (Rect.unit (s := S4096x512) o4 S512x512.size hi4) (fun _ => rfl) : Memref sig .tc .vmem S512x512 .bf16)
              (.remote (Dev.tc d : Thread nD τ) ((xgM.slice (Rect.unit (s := S8x512x512) o3 S1x512x512.size hi3) (fun _ => rfl)).squeeze S512x512 squeezes_S1x512x512_S512x512 : Memref sig .tc .vmem S512x512 .bf16)
                (.dma sS) hsc) (.dma sR) hsrc hdst hsem) k) Q) := by
  subst hd ho4 ho3 hsS hsR
  unfold SendP DstX SentX sendPay
  rw [bigSep_Ico_succ_bot h8, bigSep_Ico_succ_bot h8, bigSep_Ico_succ_top h1, dX_peel c h8,
    show tallyAt (recvCell (peer c n) c) () NX + dX c (n + 1) + O = dX c (n + 1) + O + tallyAt (recvCell (peer c n) c) () NX from by abel]
  iintro ⟨#HC, ⟨⟨Ht1, Ht2, Hsrc⟩, HP⟩, ⟨Hfree, HD⟩, HS, HO⟩ Hk
  iapply (st_remote m ρ c (peer c n) (xlV (peer c n)) (xgV c) (sendSem (peer c n)) (recvSem c) NX (credX _) fullShare (xsent m ρ c (peer c n)) (dX c (n + 1) + O)
    (duties_send m ρ c _ (peer_ne' c n h1 h8)) (duties_recv m ρ _ _ (peer_ne' c n h1 h8).symm) (amount_send m ρ c _ 0 dz) (amount_recv m ρ _ c 0 dz)
    (payload_send m ρ c _ 0 dz) (payload_recv m ρ _ c 0 dz)) $$ [Ht1 Ht2 Hsrc Hfree HO]
  · isplitr; · iapply (cell_send m ρ c (peer c n)); iexact HC
    isplitr; · iapply (cell_recv m ρ (peer c n) c); iexact HC
    isplitl [Ht1]; · iexact Ht1
    isplitl [Ht2]; · iexact Ht2
    isplitl [Hsrc]; · iexact Hsrc
    isplitl [Hfree]; · iexact Hfree
    iexact HO
  iintro ⟨Hcr, HO⟩
  iapply Hk
  isplitl [HP]; · iexact HP
  isplitl [HD]; · iexact HD
  isplitl [HS Hcr]
  · isplitl [Hcr] <;> iassumption
  iexact HO

/-! ## The copies of maxima -/

/-- The tokens of the copies of maxima from the `n`-th on. -/
def ASendP (n : ℕ) : sProp 𝕄 := bigSep (Finset.Ico n 8) fun k =>
  iprop(dutyTok ER (asendCell c (peer c k)) 0 dz ∗ dutyTok ER (arecvCell (peer c k) c) 0 dz)
/-- The credit of the copies of maxima before the `n`-th. -/
def SentA (n : ℕ) : sProp 𝕄 := bigSep (Finset.Ico 1 n) fun k => cred (tallyAt (asendCell c (peer c k)) () NA)
/-- The device's own slot, with the share left before the `n`-th copy. -/
def OwnA (n : ℕ) : sProp 𝕄 := owns (c : Thread nD τ) (amV c) (rest n) (am m ρ c)

theorem credA {sp : Space} (v : View sig .tc sp S8x128 .f32) : v.dmaCredit = NA := rfl

omit [FloatOps F] [Named F] in
/-- A memref's elements at a share are the same at its two halves. -/
theorem owns_halves {sp : Space} {s : Shape} {e : EltTy} (M : Memref sig .tc sp s e) (q : PosShare TreeShare) (X : s.Idx → Elt F e) :
    (owns (c : Thread nD τ) M q X : sProp 𝕄) ⊢ iprop(owns (c : Thread nD τ) M q.left X ∗ owns (c : Thread nD τ) M q.right X) := by
  unfold owns
  iintro ⟨%f, %hf, H⟩
  ihave H := (pointsTo_share (PosShare.mem_left_op_right q)).1 $$ H
  icases H with ⟨Ha, Hb⟩
  isplitl [Ha]
  · iexists f; isplitr; · ipureintro; exact hf
    iexact Ha
  · iexists f; isplitr; · ipureintro; exact hf
    iexact Hb

/-- The copy of the device's maximum into its slot at the `n`-th peer. -/
theorem st_asend (n : ℕ) (h1 : 1 ≤ n) (h8 : n < 8) (d : Dev nD) (hd : d = peer c n)
    (o : Fin 3 → ℕ) (hi : ∀ a, o a + S1x8x128.size a ≤ S8x8x128.size a) (ho : o = ![c.val, 0, 0])
    (sS sR : DmaSem sig) (hsS : sS = asendSem (peer c n)) (hsR : sR = arecvSem c)
    {hsc} {hsrc} {hdst} {hsem} :
    iprop(Cells m ρ ∗ ASendP c n ∗ DstA c n ∗ OwnA m ρ c n ∗ SentA c n ∗ OW c (dA c n))
      ⊢ iprop((iprop(ASendP c (n + 1) ∗ DstA c (n + 1) ∗ OwnA m ρ c (n + 1) ∗ SentA c (n + 1) ∗ OW c (dA c (n + 1))) -∗ runs c (k ⟨⟩) Q)
          -∗ runs c (.op (.enqueueDma ((amM.slice (Rect.unit (s := S8x8x128) o S1x8x128.size hi) (fun _ => rfl)).squeeze S8x128 squeezes_S1x8x128_S8x128 : Memref sig .tc .vmem S8x128 .f32)
              (.remote (Dev.tc d : Thread nD τ) ((amM.slice (Rect.unit (s := S8x8x128) o S1x8x128.size hi) (fun _ => rfl)).squeeze S8x128 squeezes_S1x8x128_S8x128 : Memref sig .tc .vmem S8x128 .f32)
                (.dma sS) hsc) (.dma sR) hsrc hdst hsem) k) Q) := by
  subst hd ho hsS hsR
  unfold ASendP DstA SentA OwnA
  rw [bigSep_Ico_succ_bot h8, bigSep_Ico_succ_bot h8, bigSep_Ico_succ_top h1, dA_peel c h8,
    show tallyAt (arecvCell (peer c n) c) () NA + dA c (n + 1) = dA c (n + 1) + tallyAt (arecvCell (peer c n) c) () NA from by abel]
  iintro ⟨#HC, ⟨⟨Ht1, Ht2⟩, HP⟩, ⟨Hfree, HD⟩, Hown, HS, HO⟩ Hk
  ihave Hown := (owns_halves c (amV c) (rest n) (am m ρ c)) $$ Hown
  icases Hown with ⟨Hsrc, Hown⟩
  have hn : (dist c (peer c n)).val = n := congrArg Fin.val (dist_peer c ⟨n, h8⟩)
  iapply (st_remote m ρ c (peer c n) (amV c) (amV c) (asendSem (peer c n)) (arecvSem c) NA (credA _) (rest n).left (am m ρ c) (dA c (n + 1))
    (duties_asend m ρ c _ (peer_ne' c n h1 h8)) (duties_arecv m ρ _ _ (peer_ne' c n h1 h8).symm) (amount_asend m ρ c _ 0 dz) (amount_arecv m ρ _ c 0 dz)
    ((payload_asend m ρ c _ 0 dz).trans (by unfold asendPay lent; rw [hn])) (payload_arecv m ρ _ c 0 dz)) $$ [Ht1 Ht2 Hsrc Hfree HO]
  · isplitr; · iapply (cell_asend m ρ c (peer c n)); iexact HC
    isplitr; · iapply (cell_arecv m ρ (peer c n) c); iexact HC
    isplitl [Ht1]; · iexact Ht1
    isplitl [Ht2]; · iexact Ht2
    isplitl [Hsrc]; · iexact Hsrc
    isplitl [Hfree]; · iexact Hfree
    iexact HO
  iintro ⟨Hcr, HO⟩
  iapply Hk
  isplitl [HP]; · iexact HP
  isplitl [HD]; · iexact HD
  isplitl [Hown]; · iexact Hown
  isplitl [HS Hcr]
  · isplitl [Hcr] <;> iassumption
  iexact HO

/-! ## The local copies of blocks of `w` -/

set_option backward.proofsInPublic true in
/-- The half of the buffer, and the semaphore, of the `j`-th local copy. -/
def half (j : ℕ) : Fin 2 := ⟨j % 2, Nat.mod_lt _ (by decide)⟩

/-- What the local copies from the `n`-th on need. -/
def WP (n : ℕ) : sProp 𝕄 := bigSep (Finset.Ico n 8) fun j =>
  iprop(dutyTok ER (wCell c (half j)) (j / 2) dz ∗ owns (c : Thread nD τ) (wV (peer c j)) fullShare (wblk m c (peer c j)))
/-- The blocks of `w` the copies before the `n`-th have given back. -/
def WOut (n : ℕ) : sProp 𝕄 := bigSep (Finset.Ico 0 n) fun j => owns (c : Thread nD τ) (wV (peer c j)) fullShare (wblk m c (peer c j))
/-- Half `b` of the buffer between copies, its semaphore at round `r`; -/
def WFree (b : Fin 2) (r : ℕ) : sProp 𝕄 := iprop(atPos ER (wCell c b) r ∅ 0 ∗ reached ER (wCell c b) r ∗ free c (wbV b))
/-- during the copy of round `r`; -/
def WBusy (b : Fin 2) (r : ℕ) : sProp 𝕄 := iprop(atPos ER (wCell c b) r ∅ 0 ∗ cred (tallyAt (wCell c b) () NW))
/-- and once it is filled by the `n`-th copy, at the next round. -/
def WFull (b : Fin 2) (r n : ℕ) : sProp 𝕄 :=
  iprop(atPos ER (wCell c b) r ∅ 0 ∗ reached ER (wCell c b) r ∗ owns (c : Thread nD τ) (wbV b) fullShare (wblk m c (peer c n)))

theorem wfull_free (b : Fin 2) (r n : ℕ) : WFull m c b r n ⊢ WFree c b r := by
  unfold WFull WFree free
  iintro ⟨Ha, Hr, H⟩
  isplitl [Ha]; · iexact Ha
  isplitl [Hr]; · iexact Hr
  iexists _; iexact H

theorem credW {sp : Space} (v : View sig .tc sp S512x2048 .f32) : v.dmaCredit = NW := rfl

/-- A local copy, its duty's payload the filled destination and the source. -/
theorem st_local {sp : Space} {s : Shape} {e : EltTy} (src : Memref sig .tc sp s e) (dst : Memref sig .tc .vmem s e) (sS : DmaSem sig) {hsrc} {hdst} {hsem}
    (r N : ℕ) (hN : dst.view.dmaCredit = N) (X : s.Idx → Elt F e)
    (hd : (Rd (F := F) m ρ).duties ((c : Thread nD τ), .dma sS) r = {dz})
    (hk : (Rd (F := F) m ρ).amount ((c : Thread nD τ), .dma sS) r dz = N)
    (hp : (Rd (F := F) m ρ).payload ((c : Thread nD τ), .dma sS) r dz = iprop(owns (c : Thread nD τ) dst fullShare X ∗ owns (c : Thread nD τ) src fullShare X)) :
    iprop(Cell m ρ ((c : Thread nD τ), .dma sS) ∗ dutyTok ER ((c : Thread nD τ), .dma sS) r dz ∗ reached ER ((c : Thread nD τ), .dma sS) r
        ∗ owns (c : Thread nD τ) src fullShare X ∗ free c dst)
      ⊢ iprop((cred (tallyAt ((c : Thread nD τ), .dma sS) () N) -∗ runs c (k ⟨⟩) Q)
          -∗ runs c (.op (.enqueueDma src (.here dst) (.dma sS) hsrc hdst hsem) k) Q) := by
  unfold Cell free owns
  iintro ⟨⟨⟨%κ₁, #Hi1⟩, -⟩, Ht1, Hr, ⟨%fs, %hfs, Hsrc⟩, ⟨%Y, %fd, -, Hdst⟩⟩ Hk
  have hq : iprop((dst.view.loc (c : Thread nD τ) ↦[dst.view.set]{fullShare} (dst.view.write (Elt F) fd (src.view.read (Elt F) fs) Finset.univ))
      ∗ (src.view.loc (c : Thread nD τ) ↦[src.view.set]{fullShare} fs) : sProp 𝕄) ⊢ (Rd (F := F) m ρ).payload ((c : Thread nD τ), .dma sS) r dz := by
    rw [hp]; unfold owns
    iintro ⟨H, H'⟩
    isplitl [H]
    · iexists _; isplitr
      swap; · iexact H
      ipureintro; rw [View.read_write_univ]; exact hfs
    · iexists _; isplitr
      swap; · iexact H'
      ipureintro; exact hfs
  iapply (Rounds.wp_copy_pointsTo 𝒱₀ ER (Rd m ρ) (c : Thread nD τ) none (src := src) (dst := dst) (sem := .dma sS)
    (hsrc := hsrc) (hdst := hdst) (hsem := hsem) (k := k) (κ := κ₁) (r := r) (d := dz) (fd := fd) (fs := fs) (q := fullShare)
    (hd ▸ Finset.mem_singleton_self _) () N hN hk hq) $$ [Hsrc Hdst Ht1 Hr]
  · isplitr; · iexact Hi1
    isplitl [Hsrc]; · iexact Hsrc
    isplitl [Hdst]; · iexact Hdst
    isplitl [Ht1]; · iexact Ht1
    iexact Hr
  iexact Hk

/-- The start of the `n`-th local copy. -/
theorem st_wcopy (n : ℕ) (b : Fin 2) (r : ℕ) (hb : half n = b) (hr : n / 2 = r) (hr4 : r < 4) (hnb : 2 * r + b.val = n) (h8 : n < 8)
    (o5 : Fin 2 → ℕ) (hi5 : ∀ a, o5 a + S512x2048.size a ≤ S4096x2048.size a) (ho5 : o5 = ![512 * (peer c n).val, 0])
    (o3 : Fin 3 → ℕ) (hi3 : ∀ a, o3 a + S1x512x2048.size a ≤ S2x512x2048.size a) (ho3 : o3 = ![b.val, 0, 0])
    (sS : DmaSem sig) (hsS : sS = wSem b) {hsrc} {hdst} {hsem} :
    iprop(Cells m ρ ∗ WP m c n ∗ WFree c b r)
      ⊢ iprop((iprop(WP m c (n + 1) ∗ WBusy c b r) -∗ runs c (k ⟨⟩) Q)
          -∗ runs c (.op (.enqueueDma (wM.slice (Rect.unit (s := S4096x2048) o5 S512x2048.size hi5) (fun _ => rfl) : Memref sig .tc .hbm S512x2048 .f32)
              (.here ((wbM.slice (Rect.unit (s := S2x512x2048) o3 S1x512x2048.size hi3) (fun _ => rfl)).squeeze S512x2048 squeezes_S1x512x2048_S512x2048 : Memref sig .tc .vmem S512x2048 .f32))
              (.dma sS) hsrc hdst hsem) k) Q) := by
  subst ho5 ho3 hsS
  unfold WP WFree WBusy
  rw [bigSep_Ico_succ_bot h8, hb, hr]
  iintro ⟨#HC, ⟨⟨Ht, Hsrc⟩, HP⟩, Hat, Hr, Hfree⟩ Hk
  iapply (st_local m ρ c (wV (peer c n)) (wbV b) (wSem b) r NW (credW _) (wblk m c (peer c n))
    (duties_w m ρ c b r hr4) (amount_w m ρ c b r dz) ((payload_w m ρ c b r dz).trans (by rw [hnb]; rfl))) $$ [Ht Hr Hsrc Hfree]
  · isplitr; · iapply (cell_w m ρ c b); iexact HC
    isplitl [Ht]; · iexact Ht
    isplitl [Hr]; · iexact Hr
    isplitl [Hsrc]; · iexact Hsrc
    iexact Hfree
  iintro Hcr
  iapply Hk
  isplitl [HP]; · iexact HP
  isplitl [Hat] <;> iassumption

end Steps

end Cert.KProof
-- ==== Proof.Waits.lean ====
/-
# The kernel's waits, loads and stores
-/
module

public import proofs.«01_k».proof.Proof.Copies

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Steps
variable (c : Dev nD) {α : Type} {Q : α → sProp (MT nD τ sig Unit (Elt F) ℕ UU ℕ)} {k : PUnit → Prog (TpuEff nD τ sig (Elt F) Λ₀ .tc) α}

/-! ## Waits for a copy -/

/-- A wait for the copy of round `r` on one of the device's own cells. -/
theorem st_dmawait {sp sp' : Space} {s s' : Shape} {e e' : EltTy} (src : Memref sig .tc sp' s' e') (dst : Memref sig .tc sp s e) (sS : DmaSem sig) {hsrc} {hdst}
    (r l N : ℕ) (hN : dst.view.dmaCredit = N) (O : CellTallies nD τ sig Unit) (hl : lvk (kind (.dma sS)) ≤ l) (hO : Above l O)
    (hd : (Rd (F := F) m ρ).duties ((c : Thread nD τ), .dma sS) r = {dz})
    (hk : (Rd (F := F) m ρ).amount ((c : Thread nD τ), .dma sS) r dz = N) :
    iprop(Cell m ρ ((c : Thread nD τ), .dma sS) ∗ levAts L lv ∗ cred (tallyAt ((c : Thread nD τ), .dma sS) () N) ∗ atPos ER ((c : Thread nD τ), .dma sS) r ∅ 0 ∗ OW c O)
      ⊢ iprop((iprop((Rd (F := F) m ρ).payload ((c : Thread nD τ), .dma sS) r dz ∗ atPos ER ((c : Thread nD τ), .dma sS) (r + 1) ∅ 0
            ∗ reached ER ((c : Thread nD τ), .dma sS) (r + 1) ∗ OW c O) -∗ runs c (k ⟨⟩) Q)
          -∗ runs c (.op (.waitDma2 sS src dst hsrc hdst) k) Q) := by
  subst hN
  exact st_wait m ρ c r l _ (wpE_waitDma2_eq 𝒱₀ (c : Thread nD τ) none Set.univ) O hl hO (by rw [expect_one m ρ hd, hk])
    (by rw [rest_one m ρ hd])

/-- The cells of a family still to be waited on, from the `n`-th, with the credit for each; -/
def WaitP (sm : ℕ → DmaSem sig) (N n : ℕ) : sProp 𝕄 := bigSep (Finset.Ico n 8) fun k =>
  iprop(cred (tallyAt ((c : Thread nD τ), .dma (sm k)) () N) ∗ atPos ER ((c : Thread nD τ), .dma (sm k)) 0 ∅ 0)
/-- and those waited on, with what each handed over. -/
def WaitD (sm : ℕ → DmaSem sig) (P : ℕ → sProp 𝕄) (n : ℕ) : sProp 𝕄 := bigSep (Finset.Ico 1 n) fun k =>
  iprop(P k ∗ atPos ER ((c : Thread nD τ), .dma (sm k)) 1 ∅ 0)

/-- The `n`-th wait of a family. -/
theorem st_family (sm : ℕ → DmaSem sig) (P : ℕ → sProp 𝕄) (N n l : ℕ) (h1 : 1 ≤ n) (h8 : n < 8) {sp sp' : Space} {s s' : Shape} {e e' : EltTy}
    (src : Memref sig .tc sp' s' e') (dst : Memref sig .tc sp s e) (sS : DmaSem sig) (hs : sS = sm n) {hsrc} {hdst}
    (hN : dst.view.dmaCredit = N) (O : CellTallies nD τ sig Unit) (hl : lvk (kind (.dma (sm n))) ≤ l) (hO : Above l O)
    (hC : Cells m ρ ⊢ Cell m ρ ((c : Thread nD τ), .dma (sm n)))
    (hd : (Rd (F := F) m ρ).duties ((c : Thread nD τ), .dma (sm n)) 0 = {dz})
    (hk : (Rd (F := F) m ρ).amount ((c : Thread nD τ), .dma (sm n)) 0 dz = N)
    (hp : (Rd (F := F) m ρ).payload ((c : Thread nD τ), .dma (sm n)) 0 dz ⊢ P n) :
    iprop(Cells m ρ ∗ levAts L lv ∗ WaitP c sm N n ∗ WaitD c sm P n ∗ OW c O)
      ⊢ iprop((iprop(WaitP c sm N (n + 1) ∗ WaitD c sm P (n + 1) ∗ OW c O) -∗ runs c (k ⟨⟩) Q)
          -∗ runs c (.op (.waitDma2 sS src dst hsrc hdst) k) Q) := by
  subst hs
  unfold WaitP WaitD
  rw [bigSep_Ico_succ_bot h8, bigSep_Ico_succ_top h1]
  iintro ⟨#HC, #Hlev, ⟨⟨Hc, Hat⟩, HP⟩, HD, HO⟩ Hk
  iapply (st_dmawait m ρ c src dst (sm n) 0 l N hN O hl hO hd hk) $$ [Hc Hat HO]
  · isplitr; · iapply hC; iexact HC
    isplitr; · iexact Hlev
    isplitl [Hc]; · iexact Hc
    isplitl [Hat] <;> iassumption
  iintro ⟨Hpay, Hat, -, HO⟩
  iapply Hk
  isplitl [HP]; · iexact HP
  isplitl [HD Hpay Hat]
  · isplitl [Hpay Hat]
    · isplitl [Hpay]; · iapply hp; iexact Hpay
      iexact Hat
    iexact HD
  iexact HO

abbrev smRecv (k : ℕ) : DmaSem sig := recvSem (peer c k)
abbrev smSend (k : ℕ) : DmaSem sig := sendSem (peer c k)
abbrev smARecv (k : ℕ) : DmaSem sig := arecvSem (peer c k)
abbrev smASend (k : ℕ) : DmaSem sig := asendSem (peer c k)
/-- The blocks received before the `n`-th; -/
def RecvD (n : ℕ) : sProp 𝕄 := WaitD c (smRecv c) (fun k => recvPay m ρ c (peer c k)) n
/-- the rows of the rounded `x` whose copies have been waited for; -/
def SendD (n : ℕ) : sProp 𝕄 := WaitD c (smSend c) (fun k => sendPay m ρ c (peer c k)) n
/-- the maxima received; -/
def ARecvD (n : ℕ) : sProp 𝕄 := WaitD c (smARecv c) (fun k => arecvPay m ρ c (peer c k)) n
/-- the shares of the device's own maximum given back. -/
def ASendD (n : ℕ) : sProp 𝕄 := WaitD c (smASend c) (fun k => owns (c : Thread nD τ) (amV c) (lent k) (am m ρ c)) n
abbrev RecvP (n : ℕ) : sProp 𝕄 := WaitP c (smRecv c) NX n
abbrev SendW (n : ℕ) : sProp 𝕄 := WaitP c (smSend c) NX n
abbrev ARecvP (n : ℕ) : sProp 𝕄 := WaitP c (smARecv c) NA n
abbrev ASendW (n : ℕ) : sProp 𝕄 := WaitP c (smASend c) NA n

section Families
variable (n : ℕ) (h1 : 1 ≤ n) (h8 : n < 8) {sp sp' : Space} {s' : Shape} {e' : EltTy} (src : Memref sig .tc sp' s' e') (sS : DmaSem sig)
include h1 h8

theorem st_recv (dst : Memref sig .tc sp S512x512 .bf16) (hs : sS = smRecv c n) {hsrc} {hdst} :
    iprop(Cells m ρ ∗ levAts L lv ∗ RecvP c n ∗ RecvD m ρ c n ∗ OW c (dA c 1))
      ⊢ iprop((iprop(RecvP c (n + 1) ∗ RecvD m ρ c (n + 1) ∗ OW c (dA c 1)) -∗ runs c (k ⟨⟩) Q)
          -∗ runs c (.op (.waitDma2 sS src dst hsrc hdst) k) Q) :=
  st_family m ρ c (smRecv c) (fun k => recvPay m ρ c (peer c k)) NX n 2 h1 h8 src dst sS hs (credX _) (dA c 1) (by rw [kind_recv]; exact Nat.le_refl 2)
    (above_dA c 1) (cell_recv m ρ c (peer c n)) (duties_recv m ρ c _ (peer_ne' c n h1 h8)) (amount_recv m ρ c _ 0 dz)
    (by rw [payload_recv])

theorem st_arecv (dst : Memref sig .tc sp S8x128 .f32) (hs : sS = smARecv c n) {hsrc} {hdst} :
    iprop(Cells m ρ ∗ levAts L lv ∗ ARecvP c n ∗ ARecvD m ρ c n ∗ OW c 0)
      ⊢ iprop((iprop(ARecvP c (n + 1) ∗ ARecvD m ρ c (n + 1) ∗ OW c 0) -∗ runs c (k ⟨⟩) Q)
          -∗ runs c (.op (.waitDma2 sS src dst hsrc hdst) k) Q) :=
  st_family m ρ c (smARecv c) (fun k => arecvPay m ρ c (peer c k)) NA n 3 h1 h8 src dst sS hs (credA _) 0 (by rw [kind_arecv]; exact Nat.le_refl 3)
    (above_zero 3) (cell_arecv m ρ c (peer c n)) (duties_arecv m ρ c _ (peer_ne' c n h1 h8)) (amount_arecv m ρ c _ 0 dz)
    (by rw [payload_arecv])

theorem st_sendwait (dst : Memref sig .tc sp S512x512 .bf16) (hs : sS = smSend c n) {hsrc} {hdst} :
    iprop(Cells m ρ ∗ levAts L lv ∗ SendW c n ∗ SendD m ρ c n ∗ OW c 0)
      ⊢ iprop((iprop(SendW c (n + 1) ∗ SendD m ρ c (n + 1) ∗ OW c 0) -∗ runs c (k ⟨⟩) Q)
          -∗ runs c (.op (.waitDma2 sS src dst hsrc hdst) k) Q) :=
  st_family m ρ c (smSend c) (fun k => sendPay m ρ c (peer c k)) NX n 0 h1 h8 src dst sS hs (credX _) 0 (by rw [kind_send]; exact Nat.le_refl 0)
    (above_zero 0) (cell_send m ρ c (peer c n)) (duties_send m ρ c _ (peer_ne' c n h1 h8)) (amount_send m ρ c _ 0 dz)
    (by rw [payload_send])

theorem st_asendwait (dst : Memref sig .tc sp S8x128 .f32) (hs : sS = smASend c n) {hsrc} {hdst} :
    iprop(Cells m ρ ∗ levAts L lv ∗ ASendW c n ∗ ASendD m ρ c n ∗ OW c 0)
      ⊢ iprop((iprop(ASendW c (n + 1) ∗ ASendD m ρ c (n + 1) ∗ OW c 0) -∗ runs c (k ⟨⟩) Q)
          -∗ runs c (.op (.waitDma2 sS src dst hsrc hdst) k) Q) :=
  st_family m ρ c (smASend c) (fun k => owns (c : Thread nD τ) (amV c) (lent k) (am m ρ c)) NA n 0 h1 h8 src dst sS hs (credA _) 0 (by rw [kind_asend]; exact Nat.le_refl 0)
    (above_zero 0) (cell_asend m ρ c (peer c n)) (duties_asend m ρ c _ (peer_ne' c n h1 h8)) (amount_asend m ρ c _ 0 dz)
    (by rw [payload_asend]; unfold asendPay; rw [show (dist c (peer c n)).val = n from congrArg Fin.val (dist_peer c ⟨n, h8⟩)])
end Families

/-- The wait for the `n`-th local copy. -/
theorem st_wwait (n : ℕ) (b : Fin 2) (r : ℕ) (hr4 : r < 4) (hnb : 2 * r + b.val = n) {sp sp' : Space} {s' : Shape} {e' : EltTy} (src : Memref sig .tc sp' s' e')
    (dst : Memref sig .tc sp S512x2048 .f32) (sS : DmaSem sig) (hs : sS = wSem b) {hsrc} {hdst} :
    iprop(Cells m ρ ∗ levAts L lv ∗ WBusy c b r ∗ WOut m c n ∗ OW c (dA c 1))
      ⊢ iprop((iprop(WFull m c b (r + 1) n ∗ WOut m c (n + 1) ∗ OW c (dA c 1)) -∗ runs c (k ⟨⟩) Q)
          -∗ runs c (.op (.waitDma2 sS src dst hsrc hdst) k) Q) := by
  subst hs
  unfold WBusy WOut WFull
  rw [bigSep_Ico_succ_top (Nat.zero_le n)]
  iintro ⟨#HC, #Hlev, ⟨Hat, Hc⟩, HD, HO⟩ Hk
  iapply (st_dmawait m ρ c src dst (wSem b) r 0 NW (credW _) (dA c 1) (by rw [kind_w]; exact Nat.le_refl 0) (above_le (Nat.zero_le _) (above_dA c 1))
    (duties_w m ρ c b r hr4) (amount_w m ρ c b r dz)) $$ [Hc Hat HO]
  · isplitr; · iapply (cell_w m ρ c b); iexact HC
    isplitr; · iexact Hlev
    isplitl [Hc]; · iexact Hc
    isplitl [Hat] <;> iassumption
  rw [payload_w, hnb]
  unfold wPay
  iintro ⟨⟨Hb, Hw⟩, Hat, Hr, HO⟩
  iapply Hk
  isplitl [Hb Hat Hr]
  · isplitl [Hat]; · iexact Hat
    isplitl [Hr] <;> iassumption
  isplitl [HD Hw]
  · isplitl [Hw] <;> iassumption
  iexact HO

/-! ## Loads and stores -/

omit [FloatOps F] [Named F] in
/-- A memref under another shape of as many elements owns the same elements, its contents taken in the new order. -/
theorem owns_sq {sp : Space} {s s' : Shape} {e : EltTy} (M : Memref sig .tc sp s e) (h : s.Squeezes s') (q : PosShare TreeShare) (X : s.Idx → Elt F e) :
    (owns (c : Thread nD τ) M q X : sProp 𝕄) ⊢ owns (c : Thread nD τ) (M.squeeze s' h) q (fun j => X (Shape.reshapeEquiv h.numel_eq j)) := by
  unfold owns
  rw [Memref.view_squeeze, View.set_reshape]
  iintro ⟨%f, %hf, H⟩
  iexists f
  isplitr
  · ipureintro; subst hf; rfl
  · iexact H

omit [FloatOps F] [Named F] in
theorem owns_unsq {sp : Space} {s s' : Shape} {e : EltTy} (M : Memref sig .tc sp s e) (h : s.Squeezes s') (q : PosShare TreeShare) (X : s'.Idx → Elt F e) :
    (owns (c : Thread nD τ) (M.squeeze s' h) q X : sProp 𝕄) ⊢ owns (c : Thread nD τ) M q (fun j => X (Shape.reshapeEquiv h.numel_eq.symm j)) := by
  unfold owns
  rw [Memref.view_squeeze, View.set_reshape]
  iintro ⟨%f, %hf, H⟩
  iexists f
  isplitr
  · ipureintro; subst hf; funext j
    show _ = M.view.read (Elt F) f (Shape.reshapeEquiv h.numel_eq (Shape.reshapeEquiv h.numel_eq.symm j))
    rw [Shape.reshapeEquiv_reshapeEquiv, Shape.reshapeEquiv_self]
  · iexact H

/-- A load through a rectangle of a memref, the rectangle's elements held at some share. -/
theorem st_load {cs : CoreSpace} {s : Shape} {e : EltTy} (M : Memref sig .tc cs s e) (r : Rect s) (hr : ∀ a, r.stride a = 1) (q : PosShare TreeShare) (X : r.shape.Idx → Elt F e)
    {hl} {k : (r.shape.Idx → Elt F e) → Prog (TpuEff nD τ sig (Elt F) Λ₀ .tc) α} :
    (owns (c : Thread nD τ) (M.slice r hr) q X : sProp 𝕄)
      ⊢ iprop((owns (c : Thread nD τ) (M.slice r hr) q X -∗ runs c (k X) Q) -∗ runs c (.op (.load M r.toLoadRect hl) k) Q) := by
  unfold owns
  iintro ⟨%f, %hf, H⟩ Hk
  subst hf
  iapply (wp_load_rect 𝒱₀ (c : Thread nD τ) none Set.univ (m := M) (r := r) (hl := hl) (k := k) (f := f) (Finset.Subset.refl _)) $$ H
  iintro H
  iapply Hk
  iexists f
  isplitr; · ipureintro; rfl
  iexact H

/-- A store of all the elements of a rectangle. -/
theorem st_store {cs : CoreSpace} {s : Shape} {e : EltTy} (M : Memref sig .tc cs s e) (r : Rect s) (hr : ∀ a, r.stride a = 1) (X w : r.shape.Idx → Elt F e)
    {hx} {hm} :
    (owns (c : Thread nD τ) (M.slice r hr) fullShare X : sProp 𝕄)
      ⊢ iprop((owns (c : Thread nD τ) (M.slice r hr) fullShare w -∗ runs c (k ⟨⟩) Q) -∗ runs c (.op (.store M r w Finset.univ hx hm) k) Q) := by
  unfold owns
  iintro ⟨%f, %hf, H⟩ Hk
  iapply (wp_store 𝒱₀ (c : Thread nD τ) none Set.univ (m := M) (r := r) (w := w) (Mk := Finset.univ) (hx := hx) (hm := hm) (k := k) (S := (M.slice r hr).view.set) (f := f) (subset_of_eq rfl)) $$ H
  iintro H
  iapply Hk
  iexists _
  isplitr
  swap; · iexact H
  ipureintro; exact View.read_write_univ _ _

theorem zero2 : (![0, 0] : Fin 2 → ℕ) = fun _ => 0 := by funext a; fin_cases a <;> rfl
theorem zero3 : (![0, 0, 0] : Fin 3 → ℕ) = fun _ => 0 := by funext a; fin_cases a <;> rfl

/-- A load of the whole of `cc0_stg0_0`. -/
theorem st_load_x (q : PosShare TreeShare) (f : (cc0_stg0_0 : Ref sig .tc).ty.Contents (Elt F)) (inb : ∀ a, (![0, 0] : Fin 2 → ℕ) a + S4096x512.size a ≤ S4096x512.size a) {hl}
    {k : (S4096x512.Idx → Elt F .f32) → Prog (TpuEff nD τ sig (Elt F) Λ₀ .tc) α} :
    ((((c : Thread nD τ).loc cc0_stg0_0) ↦{q} f) : sProp 𝕄)
      ⊢ iprop(((((c : Thread nD τ).loc cc0_stg0_0) ↦{q} f) -∗ runs c (k f) Q)
        -∗ runs c (.op (.load xM (Rect.unit (s := S4096x512) ![0, 0] S4096x512.size inb).toLoadRect hl) k) Q) := by
  have h := wp_load 𝒱₀ (c : Thread nD τ) none Set.univ (Γ := .empty) (defs := defs₀ (F := F)) (Q := Q) (m := xM) (r := (Rect.unit (s := S4096x512) ![0, 0] S4096x512.size inb).toLoadRect) (hl := hl) (k := k) (q := q) (f := f) (Finset.subset_univ _)
  rwa [show (xM : Memref sig .tc .vmem S4096x512 .f32).view.readAt (Elt F) (Rect.unit (s := S4096x512) ![0, 0] S4096x512.size inb).toLoadRect f = f from
    Memref.readAt_unit_zero (Elt F) cc0_stg0_0 zero2 inb f] at h

/-- A load of the whole of `cc0_stg1_0`. -/
theorem st_load_out (q : PosShare TreeShare) (f : (cc0_stg1_0 : Ref sig .tc).ty.Contents (Elt F)) (inb : ∀ a, (![0, 0] : Fin 2 → ℕ) a + S512x2048.size a ≤ S512x2048.size a) {hl}
    {k : (S512x2048.Idx → Elt F .f32) → Prog (TpuEff nD τ sig (Elt F) Λ₀ .tc) α} :
    ((((c : Thread nD τ).loc cc0_stg1_0) ↦{q} f) : sProp 𝕄)
      ⊢ iprop(((((c : Thread nD τ).loc cc0_stg1_0) ↦{q} f) -∗ runs c (k f) Q)
        -∗ runs c (.op (.load oM (Rect.unit (s := S512x2048) ![0, 0] S512x2048.size inb).toLoadRect hl) k) Q) := by
  have h := wp_load 𝒱₀ (c : Thread nD τ) none Set.univ (Γ := .empty) (defs := defs₀ (F := F)) (Q := Q) (m := oM) (r := (Rect.unit (s := S512x2048) ![0, 0] S512x2048.size inb).toLoadRect) (hl := hl) (k := k) (q := q) (f := f) (Finset.subset_univ _)
  rwa [show (oM : Memref sig .tc .vmem S512x2048 .f32).view.readAt (Elt F) (Rect.unit (s := S512x2048) ![0, 0] S512x2048.size inb).toLoadRect f = f from
    Memref.readAt_unit_zero (Elt F) cc0_stg1_0 zero2 inb f] at h

/-- A store of the whole of `cc0_stg1_0`. -/
theorem st_store_out (f : (cc0_stg1_0 : Ref sig .tc).ty.Contents (Elt F)) (w : S512x2048.Idx → Elt F .f32) (inb : ∀ a, (![0, 0] : Fin 2 → ℕ) a + S512x2048.size a ≤ S512x2048.size a) {hx} {hm} :
    ((((c : Thread nD τ).loc cc0_stg1_0) ↦{fullShare} f) : sProp 𝕄)
      ⊢ iprop(((((c : Thread nD τ).loc cc0_stg1_0) ↦{fullShare} (w : (cc0_stg1_0 : Ref sig .tc).ty.Contents (Elt F))) -∗ runs c (k ⟨⟩) Q)
        -∗ runs c (.op (.store oM (Rect.unit (s := S512x2048) ![0, 0] S512x2048.size inb) w Finset.univ hx hm) k) Q) := by
  have h := wp_store 𝒱₀ (c : Thread nD τ) none Set.univ (Γ := .empty) (defs := defs₀ (F := F)) (Q := Q) (m := oM) (r := Rect.unit (s := S512x2048) ![0, 0] S512x2048.size inb) (w := w) (Mk := Finset.univ) (hx := hx) (hm := hm) (k := k) (f := f) (Finset.subset_univ _)
  rwa [show ((oM : Memref sig .tc .vmem S512x2048 .f32).access (Rect.unit (s := S512x2048) ![0, 0] S512x2048.size inb)).write (Elt F) f w Finset.univ = w from
    Memref.write_access_unit_zero_univ (Elt F) cc0_stg1_0 zero2 inb f w] at h

/-- A load of the whole of `cc0_scratch0`. -/
theorem st_load_xl (q : PosShare TreeShare) (f : (cc0_scratch0 : Ref sig .tc).ty.Contents (Elt F)) (inb : ∀ a, (![0, 0] : Fin 2 → ℕ) a + S4096x512.size a ≤ S4096x512.size a) {hl}
    {k : (S4096x512.Idx → Elt F .bf16) → Prog (TpuEff nD τ sig (Elt F) Λ₀ .tc) α} :
    ((((c : Thread nD τ).loc cc0_scratch0) ↦{q} f) : sProp 𝕄)
      ⊢ iprop(((((c : Thread nD τ).loc cc0_scratch0) ↦{q} f) -∗ runs c (k f) Q)
        -∗ runs c (.op (.load xlM (Rect.unit (s := S4096x512) ![0, 0] S4096x512.size inb).toLoadRect hl) k) Q) := by
  have h := wp_load 𝒱₀ (c : Thread nD τ) none Set.univ (Γ := .empty) (defs := defs₀ (F := F)) (Q := Q) (m := xlM) (r := (Rect.unit (s := S4096x512) ![0, 0] S4096x512.size inb).toLoadRect) (hl := hl) (k := k) (q := q) (f := f) (Finset.subset_univ _)
  rwa [show (xlM : Memref sig .tc .vmem S4096x512 .bf16).view.readAt (Elt F) (Rect.unit (s := S4096x512) ![0, 0] S4096x512.size inb).toLoadRect f = f from
    Memref.readAt_unit_zero (Elt F) cc0_scratch0 zero2 inb f] at h

/-- A store of the whole of `cc0_scratch0`. -/
theorem st_store_xl (f : (cc0_scratch0 : Ref sig .tc).ty.Contents (Elt F)) (w : S4096x512.Idx → Elt F .bf16) (inb : ∀ a, (![0, 0] : Fin 2 → ℕ) a + S4096x512.size a ≤ S4096x512.size a) {hx} {hm} :
    ((((c : Thread nD τ).loc cc0_scratch0) ↦{fullShare} f) : sProp 𝕄)
      ⊢ iprop(((((c : Thread nD τ).loc cc0_scratch0) ↦{fullShare} (w : (cc0_scratch0 : Ref sig .tc).ty.Contents (Elt F))) -∗ runs c (k ⟨⟩) Q)
        -∗ runs c (.op (.store xlM (Rect.unit (s := S4096x512) ![0, 0] S4096x512.size inb) w Finset.univ hx hm) k) Q) := by
  have h := wp_store 𝒱₀ (c : Thread nD τ) none Set.univ (Γ := .empty) (defs := defs₀ (F := F)) (Q := Q) (m := xlM) (r := Rect.unit (s := S4096x512) ![0, 0] S4096x512.size inb) (w := w) (Mk := Finset.univ) (hx := hx) (hm := hm) (k := k) (f := f) (Finset.subset_univ _)
  rwa [show ((xlM : Memref sig .tc .vmem S4096x512 .bf16).access (Rect.unit (s := S4096x512) ![0, 0] S4096x512.size inb)).write (Elt F) f w Finset.univ = w from
    Memref.write_access_unit_zero_univ (Elt F) cc0_scratch0 zero2 inb f w] at h

/-- A load of the whole of `cc0_scratch3`. -/
theorem st_load_am (q : PosShare TreeShare) (f : (cc0_scratch3 : Ref sig .tc).ty.Contents (Elt F)) (inb : ∀ a, (![0, 0, 0] : Fin 3 → ℕ) a + S8x8x128.size a ≤ S8x8x128.size a) {hl}
    {k : (S8x8x128.Idx → Elt F .f32) → Prog (TpuEff nD τ sig (Elt F) Λ₀ .tc) α} :
    ((((c : Thread nD τ).loc cc0_scratch3) ↦{q} f) : sProp 𝕄)
      ⊢ iprop(((((c : Thread nD τ).loc cc0_scratch3) ↦{q} f) -∗ runs c (k f) Q)
        -∗ runs c (.op (.load amM (Rect.unit (s := S8x8x128) ![0, 0, 0] S8x8x128.size inb).toLoadRect hl) k) Q) := by
  have h := wp_load 𝒱₀ (c : Thread nD τ) none Set.univ (Γ := .empty) (defs := defs₀ (F := F)) (Q := Q) (m := amM) (r := (Rect.unit (s := S8x8x128) ![0, 0, 0] S8x8x128.size inb).toLoadRect) (hl := hl) (k := k) (q := q) (f := f) (Finset.subset_univ _)
  rwa [show (amM : Memref sig .tc .vmem S8x8x128 .f32).view.readAt (Elt F) (Rect.unit (s := S8x8x128) ![0, 0, 0] S8x8x128.size inb).toLoadRect f = f from
    Memref.readAt_unit_zero (Elt F) cc0_scratch3 zero3 inb f] at h

end Steps

end Cert.KProof
-- ==== Proof.Access.lean ====
/-
# The kernel's accesses to its pieces

A load of a received block, of a filled half of the buffer of `w`, of the device's own rows, of all the maxima; the
store of its own maximum; and how the whole buffers split into those pieces.
-/
module

public import proofs.«01_k».proof.Proof.Waits
public import Idealize.ShloMosaic.Lib.Ring

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Steps
variable (c : Dev nD) {α : Type} {Q : α → sProp (MT nD τ sig Unit (Elt F) ℕ UU ℕ)} {k : PUnit → Prog (TpuEff nD τ sig (Elt F) Λ₀ .tc) α}

/-- A slot of the exchanged blocks, with and without its leading axis; -/
theorem xg_open (s : Dev nD) (q : PosShare TreeShare) (X : S512x512.Idx → Elt F .bf16) :
    (owns (c : Thread nD τ) (xgV s) q X : sProp 𝕄) ⊢ owns (c : Thread nD τ) (xgM.slice (xgR s) (fun _ => rfl)) q (unsqX X) :=
  owns_unsq c (xgM.slice (xgR s) (fun _ => rfl)) squeezes_S1x512x512_S512x512 q X
theorem xg_close (s : Dev nD) (q : PosShare TreeShare) (X : S512x512.Idx → Elt F .bf16) :
    (owns (c : Thread nD τ) (xgM.slice (xgR s) (fun _ => rfl)) q (unsqX X) : sProp 𝕄) ⊢ owns (c : Thread nD τ) (xgV s) q X := by
  refine (owns_sq c (xgM.slice (xgR s) (fun _ => rfl)) squeezes_S1x512x512_S512x512 q (unsqX X)).trans (Entails.of_eq ?_)
  exact congrArg (owns (c : Thread nD τ) (xgV s) q) (funext fun j => by
    unfold unsqX; rw [Shape.reshapeEquiv_reshapeEquiv, Shape.reshapeEquiv_self])
/-- a half of the buffer of `w`. -/
theorem wb_open (b : Fin 2) (q : PosShare TreeShare) (X : S512x2048.Idx → Elt F .f32) :
    (owns (c : Thread nD τ) (wbV b) q X : sProp 𝕄) ⊢ owns (c : Thread nD τ) (wbM.slice (wbR b) (fun _ => rfl)) q (unsqW X) :=
  owns_unsq c (wbM.slice (wbR b) (fun _ => rfl)) squeezes_S1x512x2048_S512x2048 q X
theorem wb_close (b : Fin 2) (q : PosShare TreeShare) (X : S512x2048.Idx → Elt F .f32) :
    (owns (c : Thread nD τ) (wbM.slice (wbR b) (fun _ => rfl)) q (unsqW X) : sProp 𝕄) ⊢ owns (c : Thread nD τ) (wbV b) q X := by
  refine (owns_sq c (wbM.slice (wbR b) (fun _ => rfl)) squeezes_S1x512x2048_S512x2048 q (unsqW X)).trans (Entails.of_eq ?_)
  exact congrArg (owns (c : Thread nD τ) (wbV b) q) (funext fun j => by
    unfold unsqW; rw [Shape.reshapeEquiv_reshapeEquiv, Shape.reshapeEquiv_self])

/-- The load of the block received from the `n`-th peer. -/
theorem st_load_xg (n : ℕ) (h1 : 1 ≤ n) (o : Fin 3 → ℕ) (hi : ∀ a, o a + S1x512x512.size a ≤ S8x512x512.size a) (ho : o = ![(peer c n).val, 0, 0]) {hl}
    {k : (S1x512x512.Idx → Elt F .bf16) → Prog (TpuEff nD τ sig (Elt F) Λ₀ .tc) α} :
    RecvD m ρ c (n + 1)
      ⊢ iprop((RecvD m ρ c (n + 1) -∗ runs c (k (unsqX (xsent m ρ (peer c n) c))) Q)
        -∗ runs c (.op (.load xgM (Rect.unit (s := S8x512x512) o S1x512x512.size hi).toLoadRect hl) k) Q) := by
  subst ho
  unfold RecvD WaitD
  rw [bigSep_Ico_succ_top h1]
  unfold recvPay
  iintro ⟨⟨H, Hat⟩, HD⟩ Hk
  ihave H := (xg_open c (peer c n) fullShare _) $$ H
  iapply (st_load c xgM (xgR (peer c n)) (fun _ => rfl) fullShare (unsqX (xsent m ρ (peer c n) c))) $$ H
  iintro H
  iapply Hk
  isplitr [HD]
  · isplitl [H]
    · iapply (xg_close c (peer c n) fullShare _); iexact H
    · iexact Hat
  · iexact HD

/-- The load of a filled half of the buffer of `w`. -/
theorem st_load_wb (n : ℕ) (b : Fin 2) (r : ℕ) (o : Fin 3 → ℕ) (hi : ∀ a, o a + S1x512x2048.size a ≤ S2x512x2048.size a) (ho : o = ![b.val, 0, 0]) {hl}
    {k : (S1x512x2048.Idx → Elt F .f32) → Prog (TpuEff nD τ sig (Elt F) Λ₀ .tc) α} :
    WFull m c b r n
      ⊢ iprop((WFull m c b r n -∗ runs c (k (unsqW (wblk m c (peer c n)))) Q)
        -∗ runs c (.op (.load wbM (Rect.unit (s := S2x512x2048) o S1x512x2048.size hi).toLoadRect hl) k) Q) := by
  subst ho
  unfold WFull
  iintro ⟨Hat, Hr, H⟩ Hk
  ihave H := (wb_open c b fullShare _) $$ H
  iapply (st_load c wbM (wbR b) (fun _ => rfl) fullShare (unsqW (wblk m c (peer c n)))) $$ H
  iintro H
  iapply Hk
  isplitl [Hat]; · iexact Hat
  isplitl [Hr]; · iexact Hr
  iapply (wb_close c b fullShare _); iexact H

/-- The rows of the rounded `x` the device keeps for itself. -/
def XOwn : sProp 𝕄 := owns (c : Thread nD τ) (xlV c) fullShare (xsent m ρ c c)

/-- Their load. -/
theorem st_load_own (o : Fin 2 → ℕ) (hi : ∀ a, o a + S512x512.size a ≤ S4096x512.size a) (ho : o = ![512 * c.val, 0]) {hl}
    {k : (S512x512.Idx → Elt F .bf16) → Prog (TpuEff nD τ sig (Elt F) Λ₀ .tc) α} :
    XOwn m ρ c
      ⊢ iprop((XOwn m ρ c -∗ runs c (k (xsent m ρ c c)) Q)
        -∗ runs c (.op (.load xlM (Rect.unit (s := S4096x512) o S512x512.size hi).toLoadRect hl) k) Q) := by
  subst ho
  exact st_load c xlM (xlR c) (fun _ => rfl) fullShare (xsent m ρ c c)

/-- The load of the device's slot of maxima, whatever it holds: -/
theorem st_load_slot (o : Fin 3 → ℕ) (hi : ∀ a, o a + S1x8x128.size a ≤ S8x8x128.size a) (ho : o = ![c.val, 0, 0]) {hl}
    {k : (S1x8x128.Idx → Elt F .f32) → Prog (TpuEff nD τ sig (Elt F) Λ₀ .tc) α} :
    free c (amV c)
      ⊢ iprop((∀ v, free c (amV c) -∗ runs c (k v) Q)
        -∗ runs c (.op (.load amM (Rect.unit (s := S8x8x128) o S1x8x128.size hi).toLoadRect hl) k) Q) := by
  subst ho
  unfold free
  iintro ⟨%X, H⟩ Hk
  ihave H := (owns_unsq c (amM.slice (amR c) (fun _ => rfl)) squeezes_S1x8x128_S8x128 fullShare _) $$ H
  iapply (st_load c amM (amR c) (fun _ => rfl) fullShare _) $$ H
  iintro H
  iapply Hk
  ihave H := (owns_sq c (amM.slice (amR c) (fun _ => rfl)) squeezes_S1x8x128_S8x128 fullShare _) $$ H
  iexists _
  iexact H

/-- and the store of its maximum there. -/
theorem st_store_slot (o : Fin 3 → ℕ) (hi : ∀ a, o a + S1x8x128.size a ≤ S8x8x128.size a) (ho : o = ![c.val, 0, 0]) {hx} {hm} :
    free c (amV c)
      ⊢ iprop((iprop(OwnA m ρ c 1 ∗ owns (c : Thread nD τ) (amV c) (lent 0) (am m ρ c)) -∗ runs c (k ⟨⟩) Q)
        -∗ runs c (.op (.store amM (Rect.unit (s := S8x8x128) o S1x8x128.size hi) (amx m ρ c) Finset.univ hx hm) k) Q) := by
  subst ho
  unfold free
  iintro ⟨%X, H⟩ Hk
  ihave H := (owns_unsq c (amM.slice (amR c) (fun _ => rfl)) squeezes_S1x8x128_S8x128 fullShare _) $$ H
  iapply (st_store c amM (amR c) (fun _ => rfl) _ (amx m ρ c)) $$ H
  iintro H
  iapply Hk
  ihave H := (owns_sq c (amM.slice (amR c) (fun _ => rfl)) squeezes_S1x8x128_S8x128 fullShare _) $$ H
  ihave H := (owns_halves c (amV c) fullShare _) $$ H
  icases H with ⟨Hl, Hr⟩
  isplitl [Hr]; · unfold OwnA; iexact Hr
  iexact Hl

/-! ## Whole buffers in pieces -/

theorem xl_disjoint {t t' : Dev nD} (h : t ≠ t') : Disjoint (xlR t).set (xlR t').set := by
  have hv : t.val ≠ t'.val := fun e => h (Fin.ext e)
  refine Rect.unit_disjoint (0 : Fin 2) ?_
  show 512 * t.val + 512 ≤ 512 * t'.val ∨ 512 * t'.val + 512 ≤ 512 * t.val
  omega
theorem xl_cover : (Finset.univ : Finset (Dev nD)).biUnion (fun t => (xlR t).set) = Finset.univ := by
  refine Finset.eq_univ_of_forall fun i => Finset.mem_biUnion.mpr ?_
  have h0 : (i 0).val < 4096 := (i 0).isLt
  have h1 : (i 1).val < 512 := (i 1).isLt
  refine ⟨⟨(i 0).val / 512, show (i 0).val / 512 < 8 by omega⟩, Finset.mem_univ _, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 512; omega

theorem w_disjoint {t t' : Dev nD} (h : t ≠ t') : Disjoint (wR t).set (wR t').set := by
  have hv : t.val ≠ t'.val := fun e => h (Fin.ext e)
  refine Rect.unit_disjoint (0 : Fin 2) ?_
  show 512 * t.val + 512 ≤ 512 * t'.val ∨ 512 * t'.val + 512 ≤ 512 * t.val
  omega
theorem w_cover : (Finset.univ : Finset (Dev nD)).biUnion (fun t => (wR t).set) = Finset.univ := by
  refine Finset.eq_univ_of_forall fun i => Finset.mem_biUnion.mpr ?_
  have h0 : (i 0).val < 4096 := (i 0).isLt
  have h1 : (i 1).val < 2048 := (i 1).isLt
  refine ⟨⟨(i 0).val / 512, show (i 0).val / 512 < 8 by omega⟩, Finset.mem_univ _, Rect.mem_set_unit.mpr fun a => ?_⟩
  match a with
  | ⟨0, _⟩ => show 512 * ((i 0).val / 512) ≤ (i 0).val ∧ (i 0).val < 512 * ((i 0).val / 512) + 512; omega
  | ⟨1, _⟩ => show 0 ≤ (i 1).val ∧ (i 1).val < 0 + 2048; omega

theorem xg_disjoint {t t' : Dev nD} (h : t ≠ t') : Disjoint (xgR t).set (xgR t').set := by
  have hv : t.val ≠ t'.val := fun e => h (Fin.ext e)
  refine Rect.unit_disjoint (0 : Fin 3) ?_
  show t.val + 1 ≤ t'.val ∨ t'.val + 1 ≤ t.val
  omega
theorem xg_cover : (Finset.univ : Finset (Dev nD)).biUnion (fun t => (xgR t).set) = Finset.univ := by
  refine Finset.eq_univ_of_forall fun i => Finset.mem_biUnion.mpr ?_
  have h0 : (i 0).val < 8 := (i 0).isLt
  have h1 : (i 1).val < 512 := (i 1).isLt
  have h2 : (i 2).val < 512 := (i 2).isLt
  refine ⟨⟨(i 0).val / 1, show (i 0).val / 1 < 8 by omega⟩, Finset.mem_univ _, Rect.mem_set_unit.mpr fun a => ?_⟩
  match a with
  | ⟨0, _⟩ => show (i 0).val / 1 ≤ (i 0).val ∧ (i 0).val < (i 0).val / 1 + 1; omega
  | ⟨1, _⟩ => show 0 ≤ (i 1).val ∧ (i 1).val < 0 + 512; omega
  | ⟨2, _⟩ => show 0 ≤ (i 2).val ∧ (i 2).val < 0 + 512; omega

theorem wb_disjoint {t t' : Fin 2} (h : t ≠ t') : Disjoint (wbR t).set (wbR t').set := by
  have hv : t.val ≠ t'.val := fun e => h (Fin.ext e)
  refine Rect.unit_disjoint (0 : Fin 3) ?_
  show t.val + 1 ≤ t'.val ∨ t'.val + 1 ≤ t.val
  omega
theorem wb_cover : (Finset.univ : Finset (Fin 2)).biUnion (fun t => (wbR t).set) = Finset.univ := by
  refine Finset.eq_univ_of_forall fun i => Finset.mem_biUnion.mpr ?_
  have h0 : (i 0).val < 2 := (i 0).isLt
  have h1 : (i 1).val < 512 := (i 1).isLt
  have h2 : (i 2).val < 2048 := (i 2).isLt
  refine ⟨⟨(i 0).val / 1, show (i 0).val / 1 < 2 by omega⟩, Finset.mem_univ _, Rect.mem_set_unit.mpr fun a => ?_⟩
  match a with
  | ⟨0, _⟩ => show (i 0).val / 1 ≤ (i 0).val ∧ (i 0).val < (i 0).val / 1 + 1; omega
  | ⟨1, _⟩ => show 0 ≤ (i 1).val ∧ (i 1).val < 0 + 512; omega
  | ⟨2, _⟩ => show 0 ≤ (i 2).val ∧ (i 2).val < 0 + 2048; omega

theorem am_disjoint {t t' : Dev nD} (h : t ≠ t') : Disjoint (amR t).set (amR t').set := by
  have hv : t.val ≠ t'.val := fun e => h (Fin.ext e)
  refine Rect.unit_disjoint (0 : Fin 3) ?_
  show t.val + 1 ≤ t'.val ∨ t'.val + 1 ≤ t.val
  omega
theorem am_cover : (Finset.univ : Finset (Dev nD)).biUnion (fun t => (amR t).set) = Finset.univ := by
  refine Finset.eq_univ_of_forall fun i => Finset.mem_biUnion.mpr ?_
  have h0 : (i 0).val < 8 := (i 0).isLt
  have h1 : (i 1).val < 8 := (i 1).isLt
  have h2 : (i 2).val < 128 := (i 2).isLt
  refine ⟨⟨(i 0).val / 1, show (i 0).val / 1 < 8 by omega⟩, Finset.mem_univ _, Rect.mem_set_unit.mpr fun a => ?_⟩
  match a with
  | ⟨0, _⟩ => show (i 0).val / 1 ≤ (i 0).val ∧ (i 0).val < (i 0).val / 1 + 1; omega
  | ⟨1, _⟩ => show 0 ≤ (i 1).val ∧ (i 1).val < 0 + 8; omega
  | ⟨2, _⟩ => show 0 ≤ (i 2).val ∧ (i 2).val < 0 + 128; omega

omit [FloatOps F] [Named F] in
/-- The pieces of a buffer cut by disjoint covering rectangles, whatever they hold, are the buffer. -/
theorem free_join (b : Ref sig .tc) {T : Type} [Fintype T] [DecidableEq T] (r : T → Rect b.ty.shape) (hr : ∀ t, ∀ a, (r t).stride a = 1)
    (hd : ∀ t t', t ≠ t' → Disjoint (r t).set (r t').set) (hc : (Finset.univ : Finset T).biUnion (fun t => (r t).set) = Finset.univ)
    (f₀ : Buf (Elt F) ((c : Thread nD τ).loc b)) :
    bigSep Finset.univ (fun t => free c ((Memref.whole b).slice (r t) (hr t))) ⊢ (iprop(∃ g, ((c : Thread nD τ).loc b) ↦{fullShare} g) : sProp 𝕄) := by
  have h1 : ∀ t, (free c ((Memref.whole b).slice (r t) (hr t)) : sProp 𝕄) ⊢ iprop(∃ f, ((c : Thread nD τ).loc b) ↦[(r t).set]{fullShare} f) := fun t => by
    unfold free owns
    rw [show ((Memref.whole b).slice (r t) (hr t)).view.set = (r t).set from View.set_slice_whole _ _]
    iintro ⟨%X, %f, -, H⟩
    iexists f
    iexact H
  exact (bigSep_mono fun t _ => h1 t).trans (Ring.pointsTo_blocks_join_exists _ hd hc f₀)

end Steps

end Cert.KProof
-- ==== Proof.Pieces.lean ====
/-
# The whole buffers and their pieces

How each buffer the launch hands over splits into the pieces the protocol moves around, and how the pieces make the
buffer again at the end.
-/
module

public import proofs.«01_k».proof.Proof.Access
public import Idealize.ShloMosaic.Lib.MemrefSat

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Pieces
variable (c : Dev nD)

/-- A run of assertions that each split. -/
theorem bigSep_split {P A B : ℕ → sProp (MT nD τ sig Unit (Elt F) ℕ UU ℕ)} (s : Finset ℕ) (h : ∀ k, P k ⊢ iprop(A k ∗ B k)) :
    bigSep s P ⊢ iprop(bigSep s A ∗ bigSep s B) := by
  rw [← bigSep_sep']
  exact bigSep_mono fun k _ => h k
/-- A run of assertions that each merge. -/
theorem bigSep_merge {P A B : ℕ → sProp (MT nD τ sig Unit (Elt F) ℕ UU ℕ)} (s : Finset ℕ) (h : ∀ k, iprop(A k ∗ B k) ⊢ P k) :
    iprop(bigSep s A ∗ bigSep s B) ⊢ bigSep s P := by
  rw [← bigSep_sep']
  exact bigSep_mono fun k _ => h k

omit [FloatOps F] [Named F] in
/-- Around the ring: the device's own, then its peers'. -/
theorem around_own (Φ : Dev nD → sProp 𝕄) :
    bigSep Finset.univ Φ = iprop(Φ c ∗ bigSep (Finset.Ico 1 8) fun k => Φ (peer c k)) := by
  rw [around_bigSep c, bigSep_Ico_succ_bot (by decide), peer_zero]

omit [FloatOps F] [Named F] in
theorem owns_free {sp : Space} {s : Shape} {e : EltTy} (M : Memref sig .tc sp s e) (X : s.Idx → Elt F e) :
    (owns (c : Thread nD τ) M fullShare X : sProp 𝕄) ⊢ free c M := by
  unfold free; iintro H; iexists X; iexact H

omit [FloatOps F] [Named F] in
theorem free_sq {sp : Space} {s s' : Shape} {e : EltTy} (M : Memref sig .tc sp s e) (h : s.Squeezes s') :
    (free c M : sProp 𝕄) ⊢ free c (M.squeeze s' h) := by
  unfold free; iintro ⟨%X, H⟩; iexists _; iapply (owns_sq c M h fullShare X); iexact H
omit [FloatOps F] [Named F] in
theorem free_unsq {sp : Space} {s s' : Shape} {e : EltTy} (M : Memref sig .tc sp s e) (h : s.Squeezes s') :
    (free c (M.squeeze s' h) : sProp 𝕄) ⊢ free c M := by
  unfold free; iintro ⟨%X, H⟩; iexists _; iapply (owns_unsq c M h fullShare X); iexact H

/-! ## The rounded `x` -/

/-- The tokens of the copies from the `n`-th on. -/
def SendTok (n : ℕ) : sProp 𝕄 := bigSep (Finset.Ico n 8) fun k =>
  iprop(dutyTok ER (sendCell c (peer c k)) 0 dz ∗ dutyTok ER (recvCell (peer c k) c) 0 dz)
/-- The rows for the peers. -/
def Rows : sProp 𝕄 := bigSep (Finset.Ico 1 8) fun k => sendPay m ρ c (peer c k)

theorem sendP_intro : iprop(SendTok c 1 ∗ Rows m ρ c) ⊢ SendP m ρ c 1 := by
  unfold SendTok Rows SendP
  refine bigSep_merge _ fun k => ?_
  iintro ⟨⟨H1, H2⟩, H3⟩
  isplitl [H1]; · iexact H1
  isplitl [H2]; · iexact H2
  iexact H3

theorem xl_split : ((((c : Thread nD τ).loc cc0_scratch0) ↦{fullShare} xlAll m ρ c) : sProp 𝕄) ⊢ iprop(XOwn m ρ c ∗ Rows m ρ c) := by
  have h := owns_rects (Ix := Unit) (Name := ℕ) (U := UU) (Lvl := ℕ) (c : Thread nD τ) xlM fullShare xlR (fun _ _ => rfl) (fun t t' h => xl_disjoint h) xl_cover (xlAll m ρ c)
  rw [around_own c] at h
  exact (Entails.of_eq (owns_whole _ _ _ _).symm).trans h

theorem xl_join : iprop(XOwn m ρ c ∗ Rows m ρ c) ⊢ (iprop(∃ g, ((c : Thread nD τ).loc cc0_scratch0) ↦{fullShare} g) : sProp 𝕄) := by
  have h := free_join (F := F) c cc0_scratch0 xlR (fun _ _ => rfl) (fun t t' h => xl_disjoint h) xl_cover (m ((c : Thread nD τ).loc cc0_scratch0))
  rw [around_own c] at h
  exact (BI.sep_mono (owns_free c _ _) (bigSep_mono fun k _ => owns_free c _ _)).trans h

/-! ## The slots for the blocks -/

theorem xg_split (f : ((cc0_scratch1 : Ref sig .tc).ty.Contents (Elt F))) : ((((c : Thread nD τ).loc cc0_scratch1) ↦{fullShare} f) : sProp 𝕄)
    ⊢ iprop(free c (xgV c) ∗ bigSep (Finset.Ico 1 8) fun k => free c (xgV (peer c k))) := by
  have h := owns_rects (Ix := Unit) (Name := ℕ) (U := UU) (Lvl := ℕ) (c : Thread nD τ) xgM fullShare xgR (fun _ _ => rfl) (fun t t' h => xg_disjoint h) xg_cover f
  rw [around_own c] at h
  exact ((Entails.of_eq (owns_whole _ _ _ _).symm).trans h).trans
    (BI.sep_mono ((owns_free c _ _).trans (free_sq c _ _)) (bigSep_mono fun k _ => (owns_free c _ _).trans (free_sq c _ _)))

theorem xg_join : iprop(free c (xgV c) ∗ bigSep (Finset.Ico 1 8) fun k => recvPay m ρ c (peer c k))
    ⊢ (iprop(∃ g, ((c : Thread nD τ).loc cc0_scratch1) ↦{fullShare} g) : sProp 𝕄) := by
  have h := free_join (F := F) c cc0_scratch1 xgR (fun _ _ => rfl) (fun t t' h => xg_disjoint h) xg_cover (m ((c : Thread nD τ).loc cc0_scratch1))
  rw [around_own c] at h
  exact (BI.sep_mono (free_unsq c _ _) (bigSep_mono fun k _ => (owns_free c _ _).trans (free_unsq c _ _))).trans h

/-! ## The two-slot buffer of `w`, and `w` itself -/

theorem wb_split (f : ((cc0_scratch2 : Ref sig .tc).ty.Contents (Elt F))) : ((((c : Thread nD τ).loc cc0_scratch2) ↦{fullShare} f) : sProp 𝕄)
    ⊢ iprop(free c (wbV 0) ∗ free c (wbV 1)) := by
  have h := owns_rects (Ix := Unit) (Name := ℕ) (U := UU) (Lvl := ℕ) (c : Thread nD τ) wbM fullShare wbR (fun _ _ => rfl) (fun t t' h => wb_disjoint h) wb_cover f
  rw [bigSep_univ_two] at h
  exact ((Entails.of_eq (owns_whole _ _ _ _).symm).trans h).trans
    (BI.sep_mono ((owns_free c _ _).trans (free_sq c _ _)) ((owns_free c _ _).trans (free_sq c _ _)))

theorem wb_join (m : (ℓ : Loc nD τ sig) → Buf (Elt F) ℓ) : iprop(free c (wbV 0) ∗ free c (wbV 1))
    ⊢ (iprop(∃ g, ((c : Thread nD τ).loc cc0_scratch2) ↦{fullShare} g) : sProp 𝕄) := by
  have h := free_join (F := F) c cc0_scratch2 wbR (fun _ _ => rfl) (fun t t' h => wb_disjoint h) wb_cover (m ((c : Thread nD τ).loc cc0_scratch2))
  rw [bigSep_univ_two] at h
  exact (BI.sep_mono (free_unsq c _ _) (free_unsq c _ _)).trans h

/-- The blocks of `w`, all of them. -/
abbrev WAll : sProp 𝕄 := WOut m c 8

theorem w_split : ((((c : Thread nD τ).loc main_arg1) ↦{fullShare} wAt m c) : sProp 𝕄) ⊢ WAll m c := by
  have h := owns_rects (Ix := Unit) (Name := ℕ) (U := UU) (Lvl := ℕ) (c : Thread nD τ) wM fullShare wR (fun _ _ => rfl) (fun t t' h => w_disjoint h) w_cover (wAt m c)
  rw [around_bigSep c] at h
  exact (Entails.of_eq (owns_whole _ _ _ _).symm).trans h

theorem elt_nonempty (e : EltTy) : Nonempty (Elt F e) := inferInstance

theorem w_join : WAll m c ⊢ ((((c : Thread nD τ).loc main_arg1) ↦{fullShare} wAt m c) : sProp 𝕄) := by
  haveI : ∀ e, Nonempty (Elt F e) := elt_nonempty
  have h := owns_of_rects (Ix := Unit) (Name := ℕ) (U := UU) (Lvl := ℕ) (c : Thread nD τ) wM fullShare wR (fun _ _ => rfl) (fun t t' h => w_disjoint h) w_cover (wAt m c)
  rw [around_bigSep c] at h
  exact h.trans (Entails.of_eq (owns_whole _ _ _ _))

/-! ## The maxima -/

theorem am_split (f : ((cc0_scratch3 : Ref sig .tc).ty.Contents (Elt F))) : ((((c : Thread nD τ).loc cc0_scratch3) ↦{fullShare} f) : sProp 𝕄)
    ⊢ iprop(free c (amV c) ∗ bigSep (Finset.Ico 1 8) fun k => free c (amV (peer c k))) := by
  have h := owns_rects (Ix := Unit) (Name := ℕ) (U := UU) (Lvl := ℕ) (c : Thread nD τ) amM fullShare amR (fun _ _ => rfl) (fun t t' h => am_disjoint h) am_cover f
  rw [around_own c] at h
  exact ((Entails.of_eq (owns_whole _ _ _ _).symm).trans h).trans
    (BI.sep_mono ((owns_free c _ _).trans (free_sq c _ _)) (bigSep_mono fun k _ => (owns_free c _ _).trans (free_sq c _ _)))

/-- The device's slot and the shares lent so far. -/
theorem own_regain (n : ℕ) : iprop(OwnA m ρ c n ∗ bigSep (Finset.Ico 0 n) fun k => owns (c : Thread nD τ) (amV c) (lent k) (am m ρ c))
    ⊢ owns (c : Thread nD τ) (amV c) fullShare (am m ρ c) := by
  induction n with
  | zero =>
    unfold OwnA
    iintro ⟨H, -⟩
    iexact H
  | succ n ih =>
    rw [bigSep_Ico_succ_top (Nat.zero_le n)]
    refine BIBase.Entails.trans ?_ ih
    unfold OwnA
    iintro ⟨Hr, Hl, HD⟩
    isplitr [HD]
    · iapply (Idealize.ShloMosaic.owns_halves (c : Thread nD τ) (amV c) (rest n) (am m ρ c)).2
      isplitl [Hl]
      · iexact Hl
      · iexact Hr
    · iexact HD

omit [FloatOps F] [Named F] in
/-- A memref held whole lends a share and takes it back. -/
theorem owns_lower {sp : Space} {s : Shape} {e : EltTy} (M : Memref sig .tc sp s e) (X : s.Idx → Elt F e) (n : ℕ) :
    (owns (c : Thread nD τ) M fullShare X : sProp 𝕄)
      ⊢ iprop(owns (c : Thread nD τ) M (rest n) X ∗ (owns (c : Thread nD τ) M (rest n) X -∗ owns (c : Thread nD τ) M fullShare X)) := by
  induction n with
  | zero =>
    iintro H
    isplitl [H]
    · iexact H
    · iintro H; iexact H
  | succ n ih =>
    refine ih.trans ?_
    iintro ⟨H, Hw⟩
    ihave H := (Idealize.ShloMosaic.owns_halves (c : Thread nD τ) M (rest n) X).1 $$ H
    icases H with ⟨Hl, Hr⟩
    isplitl [Hr]
    · iexact Hr
    · iintro Hr
      iapply Hw
      iapply (Idealize.ShloMosaic.owns_halves (c : Thread nD τ) M (rest n) X).2
      isplitl [Hl]
      · iexact Hl
      · iexact Hr

theorem amAll_slot (t : Dev nD) (j : S1x8x128.Idx) : amAll m ρ ((amR t).emb j) = amx m ρ t j := by
  have h0 : (amR t).emb j 0 = t := Fin.ext (by
    have hj : (j 0).val < 1 := (j 0).isLt
    show t.val + 1 * (j 0).val = t.val; omega)
  unfold amAll
  rw [h0]
  refine congrArg (amx m ρ t) (funext fun a => ?_)
  match a with
  | ⟨0, _⟩ => exact Fin.ext (by have hj : (j 0).val < 1 := (j 0).isLt; show 0 = (j 0).val; omega)
  | ⟨1, _⟩ => exact Fin.ext (by show 0 + 1 * (j 1).val = (j 1).val; omega)
  | ⟨2, _⟩ => exact Fin.ext (by show 0 + 1 * (j 2).val = (j 2).val; omega)

theorem am_open (t : Dev nD) (q : PosShare TreeShare) : (owns (c : Thread nD τ) (amV t) q (am m ρ t) : sProp 𝕄)
    ⊢ owns (c : Thread nD τ) (amM.slice (amR t) (fun _ => rfl)) q (fun j => amAll m ρ ((amR t).emb j)) := by
  refine (owns_unsq c (amM.slice (amR t) (fun _ => rfl)) squeezes_S1x8x128_S8x128 q _).trans (Entails.of_eq ?_)
  exact congrArg (owns (c : Thread nD τ) (amM.slice (amR t) (fun _ => rfl)) q) (funext fun j => by
    rw [amAll_slot]; unfold am; rw [Shape.reshapeEquiv_reshapeEquiv, Shape.reshapeEquiv_self])
theorem am_close (t : Dev nD) (q : PosShare TreeShare) :
    (owns (c : Thread nD τ) (amM.slice (amR t) (fun _ => rfl)) q (fun j => amAll m ρ ((amR t).emb j)) : sProp 𝕄)
    ⊢ owns (c : Thread nD τ) (amV t) q (am m ρ t) := by
  refine (owns_sq c (amM.slice (amR t) (fun _ => rfl)) squeezes_S1x8x128_S8x128 q _).trans (Entails.of_eq ?_)
  exact congrArg (owns (c : Thread nD τ) (amV t) q) (funext fun j => by
    rw [amAll_slot]; rfl)

/-- A share of every slot is that share of the whole buffer, -/
theorem am_whole (q : PosShare TreeShare) :
    iprop(owns (c : Thread nD τ) (amV c) q (am m ρ c) ∗ bigSep (Finset.Ico 1 8) fun k => owns (c : Thread nD τ) (amV (peer c k)) q (am m ρ (peer c k)))
      ⊢ ((((c : Thread nD τ).loc cc0_scratch3) ↦{q} amAll m ρ) : sProp 𝕄) := by
  haveI : ∀ e, Nonempty (Elt F e) := elt_nonempty
  have h := owns_of_rects (Ix := Unit) (Name := ℕ) (U := UU) (Lvl := ℕ) (c : Thread nD τ) amM q amR (fun _ _ => rfl) (fun t t' h => am_disjoint h) am_cover (amAll m ρ)
  rw [around_own c] at h
  exact (BI.sep_mono (am_open m ρ c c q) (bigSep_mono fun k _ => am_open m ρ c (peer c k) q)).trans (h.trans (Entails.of_eq (owns_whole _ _ _ _)))
/-- and back. -/
theorem am_parts (q : PosShare TreeShare) :
    ((((c : Thread nD τ).loc cc0_scratch3) ↦{q} amAll m ρ) : sProp 𝕄)
      ⊢ iprop(owns (c : Thread nD τ) (amV c) q (am m ρ c) ∗ bigSep (Finset.Ico 1 8) fun k => owns (c : Thread nD τ) (amV (peer c k)) q (am m ρ (peer c k))) := by
  have h := owns_rects (Ix := Unit) (Name := ℕ) (U := UU) (Lvl := ℕ) (c : Thread nD τ) amM q amR (fun _ _ => rfl) (fun t t' h => am_disjoint h) am_cover (amAll m ρ)
  rw [around_own c] at h
  exact ((Entails.of_eq (owns_whole _ _ _ _).symm).trans h).trans (BI.sep_mono (am_close m ρ c c q) (bigSep_mono fun k _ => am_close m ρ c (peer c k) q))

/-- The whole buffer, for the load of every maximum while the device's own slot is still lent. -/
theorem am_read : iprop(OwnA m ρ c 8 ∗ ARecvD m ρ c 8)
    ⊢ iprop((((c : Thread nD τ).loc cc0_scratch3) ↦{rest 8} amAll m ρ)
        ∗ ((((c : Thread nD τ).loc cc0_scratch3) ↦{rest 8} amAll m ρ) -∗ iprop(OwnA m ρ c 8 ∗ ARecvD m ρ c 8))) := by
  unfold ARecvD WaitD
  have h : ∀ k, (iprop(arecvPay m ρ c (peer c k) ∗ atPos ER ((c : Thread nD τ), .dma (smARecv c k)) 1 ∅ 0) : sProp 𝕄)
      ⊢ iprop(owns (c : Thread nD τ) (amV (peer c k)) (rest 8) (am m ρ (peer c k))
        ∗ (owns (c : Thread nD τ) (amV (peer c k)) (rest 8) (am m ρ (peer c k)) -∗ iprop(arecvPay m ρ c (peer c k) ∗ atPos ER ((c : Thread nD τ), .dma (smARecv c k)) 1 ∅ 0))) := by
    intro k
    unfold arecvPay
    iintro ⟨H, Hat⟩
    ihave H := (owns_lower c (amV (peer c k)) (am m ρ (peer c k)) 8) $$ H
    icases H with ⟨H, Hw⟩
    isplitl [H]; · iexact H
    iintro H
    isplitl [H Hw]
    · iapply Hw; iexact H
    · iexact Hat
  have h' := bigSep_split (Finset.Ico 1 8) h
  iintro ⟨Ho, HD⟩
  ihave HD := h' $$ HD
  icases HD with ⟨HD, Hw⟩
  unfold OwnA
  isplitl [Ho HD]
  · iapply (am_whole m ρ c (rest 8))
    isplitl [Ho]
    · iexact Ho
    · iexact HD
  · iintro H
    ihave H := (am_parts m ρ c (rest 8)) $$ H
    icases H with ⟨Ho, HD⟩
    isplitl [Ho]; · iexact Ho
    have h2 := bigSep_merge (Finset.Ico 1 8) (fun k => (wand_elim_left :
      iprop((owns (c : Thread nD τ) (amV (peer c k)) (rest 8) (am m ρ (peer c k)) -∗ iprop(arecvPay m ρ c (peer c k) ∗ atPos ER ((c : Thread nD τ), .dma (smARecv c k)) 1 ∅ 0))
        ∗ owns (c : Thread nD τ) (amV (peer c k)) (rest 8) (am m ρ (peer c k)))
      ⊢ (iprop(arecvPay m ρ c (peer c k) ∗ atPos ER ((c : Thread nD τ), .dma (smARecv c k)) 1 ∅ 0) : sProp 𝕄)))
    iapply h2
    isplitl [Hw]
    · iexact Hw
    · iexact HD

theorem am_join : iprop(owns (c : Thread nD τ) (amV c) fullShare (am m ρ c) ∗ bigSep (Finset.Ico 1 8) fun k => arecvPay m ρ c (peer c k))
    ⊢ (iprop(∃ g, ((c : Thread nD τ).loc cc0_scratch3) ↦{fullShare} g) : sProp 𝕄) := by
  have h := am_whole m ρ c fullShare
  iintro H
  iexists _
  iapply h
  iexact H

end Pieces

end Cert.KProof
-- ==== Proof.Parts1.lean ====
/-
# The handshake and the copies of blocks to the peers

The kernel's first eight parts.
-/
module

public import proofs.«01_k».proof.Proof.Pieces

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What every step may use: the cells' invariants and the levels. -/
def Ctx : sProp 𝕄 := iprop(Cells m ρ ∗ levAts L lv)
instance Ctx_persistent : BI.Persistent (Ctx m ρ) := by unfold Ctx; infer_instance

section Parts
variable (c : Dev nD)

/-- A program that has ended. -/
theorem runs_ret {α : Type} {v : α} {Q : α → sProp (MT nD τ sig Unit (Elt F) ℕ UU ℕ)} : Q v ⊢ runs c (Prog.ret v) Q := by
  unfold runs
  rw [wp_ret]
  iintro H
  imodintro
  iexact H

/-- The first two signals. -/
theorem part1_run  {Q} :
    iprop(Ctx m ρ ∗ Sig c 1 ∗ OW c (dX c 1 + dA c 1 + dB c 1) ∗ iprop(∀ (v2' : BitVec 32) (v30' : BitVec 32) (c8_i32_18' : BitVec 32) (zlast' : BitVec 1), iprop(Sig c 3 ∗ OW c (dX c 1 + dA c 1 + dB c 3)) -∗ Q ⟨c, v2', (SemArray.scalar (sig.barrier 0 rfl) : Sems sig S_), v30', c8_i32_18', zlast'⟩))
      ⊢ runs c (k0_part1 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 ) Q := by
  rw [k0_part1_eq_skeleton]
  unfold k0_part1_skel Ctx
  simp only [semSignalWord, semWaitWord, Prog.lift, Prog.bind_op, Prog.bind_ret, Prog.pure_eq_ret, wp_deviceId]
  iintro ⟨⟨#HC, #Hlev⟩, HSig, HO, Hk⟩
  iapply (st_signal m ρ c 1 (by decide) (by decide) _ (dev1_eq c) (dX c 1 + dA c 1)) $$ [HSig HO]
  · isplitr; · iexact HC
    isplitl [HSig]; · iexact HSig
    iexact HO
  iintro ⟨HSig, HO⟩
  iapply (st_signal m ρ c 2 (by decide) (by decide) _ (dev2_eq c) (dX c 1 + dA c 1)) $$ [HSig HO]
  · isplitr; · iexact HC
    isplitl [HSig]; · iexact HSig
    iexact HO
  iintro ⟨HSig, HO⟩
  iapply (runs_ret c)
  iapply Hk
  isplitl [HSig]; · iexact HSig
  iexact HO

/-- Two more. -/
theorem part2_run (v2 : BitVec 32) (v30 : BitVec 32) (c8_i32_18 : BitVec 32) (v31 : BitVec 1) {Q} :
    iprop(Ctx m ρ ∗ Sig c 3 ∗ OW c (dX c 1 + dA c 1 + dB c 3) ∗ iprop(∀ (v59' : BitVec 32) (v64' : BitVec 1) (zlast' : BitVec 32), iprop(Sig c 5 ∗ OW c (dX c 1 + dA c 1 + dB c 5)) -∗ Q ⟨v59', v64', zlast'⟩))
      ⊢ runs c (k0_part2 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 (SemArray.scalar (sig.barrier 0 rfl) : Sems sig S_) v30 c8_i32_18 v31) Q := by
  rw [k0_part2_eq_skeleton]
  unfold k0_part2_skel Ctx
  simp only [semSignalWord, semWaitWord, Prog.lift, Prog.bind_op, Prog.bind_ret, Prog.pure_eq_ret, wp_deviceId]
  iintro ⟨⟨#HC, #Hlev⟩, HSig, HO, Hk⟩
  iapply (st_signal m ρ c 3 (by decide) (by decide) _ (dev3_eq c) (dX c 1 + dA c 1)) $$ [HSig HO]
  · isplitr; · iexact HC
    isplitl [HSig]; · iexact HSig
    iexact HO
  iintro ⟨HSig, HO⟩
  iapply (st_signal m ρ c 4 (by decide) (by decide) _ (dev4_eq c) (dX c 1 + dA c 1)) $$ [HSig HO]
  · isplitr; · iexact HC
    isplitl [HSig]; · iexact HSig
    iexact HO
  iintro ⟨HSig, HO⟩
  iapply (runs_ret c)
  iapply Hk
  isplitl [HSig]; · iexact HSig
  iexact HO

/-- The last three, and the wait for the peers' seven. -/
theorem part3_run (v2 : BitVec 32) (v59 : BitVec 32) (v64 : BitVec 1) (v65 : BitVec 32) {Q} :
    iprop(Ctx m ρ ∗ Sig c 5 ∗ cred (tallyAt (barCell c) () 7) ∗ atPos ER (barCell c) 0 ∅ 0 ∗ OW c (dX c 1 + dA c 1 + dB c 5) ∗ iprop(iprop((DstX c 1 ∗ DstA c 1) ∗ atPos ER (barCell c) 1 ∅ 0 ∗ OW c (dX c 1 + dA c 1)) -∗ Q ⟨⟩))
      ⊢ runs c (k0_part3 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 (SemArray.scalar (sig.barrier 0 rfl) : Sems sig S_) v59 v64 v65) Q := by
  rw [k0_part3_eq_skeleton]
  unfold k0_part3_skel Ctx
  simp only [semSignalWord, semWaitWord, Prog.lift, Prog.bind_op, Prog.bind_ret, Prog.pure_eq_ret, wp_deviceId]
  iintro ⟨⟨#HC, #Hlev⟩, HSig, Hcr, Hat, HO, Hk⟩
  iapply (st_signal m ρ c 5 (by decide) (by decide) _ (dev5_eq c) (dX c 1 + dA c 1)) $$ [HSig HO]
  · isplitr; · iexact HC
    isplitl [HSig]; · iexact HSig
    iexact HO
  iintro ⟨HSig, HO⟩
  iapply (st_signal m ρ c 6 (by decide) (by decide) _ (dev6_eq c) (dX c 1 + dA c 1)) $$ [HSig HO]
  · isplitr; · iexact HC
    isplitl [HSig]; · iexact HSig
    iexact HO
  iintro ⟨HSig, HO⟩
  iapply (st_signal m ρ c 7 (by decide) (by decide) _ (dev7_eq c) (dX c 1 + dA c 1)) $$ [HSig HO]
  · isplitr; · iexact HC
    isplitl [HSig]; · iexact HSig
    iexact HO
  iintro ⟨HSig, HO⟩
  rw [show dB c (7 + 1) = 0 from dB_end c, add_zero]
  iapply (st_barwait m ρ c) $$ [Hcr Hat HO]
  · isplitr; · iexact HC
    isplitr; · iexact Hlev
    isplitl [Hcr]; · iexact Hcr
    isplitl [Hat]; · iexact Hat
    iexact HO
  iintro ⟨HD, Hat, -, HO⟩
  iapply (runs_ret c)
  iapply Hk
  isplitl [HD]; · iexact HD
  isplitl [Hat]; · iexact Hat
  iexact HO

/-- The rounding of the device's block of `x`, and the first copy. -/
theorem part4_run (f : (cc0_scratch0 : Ref sig .tc).ty.Contents (Elt F)) (v2 : BitVec 32) {Q} :
    iprop(Ctx m ρ ∗ (((c : Thread nD τ).loc cc0_stg0_0) ↦{fullShare} xstg m ρ c) ∗ (((c : Thread nD τ).loc cc0_scratch0) ↦{fullShare} f) ∗ DstX c 1 ∗ SentX c 1 ∗ SendTok c 1 ∗ OW c (dX c 1 + dA c 1) ∗ iprop(∀ (v124' : BitVec 32) (v125' : BitVec 32) (zlast' : BitVec 1), iprop((((c : Thread nD τ).loc cc0_stg0_0) ↦{fullShare} xstg m ρ c) ∗ XOwn m ρ c ∗ SendP m ρ c 2 ∗ DstX c 2 ∗ SentX c 2 ∗ OW c (dX c 2 + dA c 1)) -∗ Q ⟨v124', v125', zlast'⟩))
      ⊢ runs c (k0_part4 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2) Q := by
  rw [k0_part4_eq_skeleton]
  unfold k0_part4_skel Ctx
  simp only [semSignalWord, semWaitWord, Prog.lift, Prog.bind_op, Prog.bind_ret, Prog.pure_eq_ret, wp_deviceId]
  iintro ⟨⟨#HC, #Hlev⟩, Hx, Hxl, HD, HS, HTk, HO, Hk⟩
  iapply (st_load_x c fullShare (xstg m ρ c) _) $$ [Hx]
  · iexact Hx
  iintro Hx
  iapply (st_load_xl c fullShare f _) $$ [Hxl]
  · iexact Hxl
  iintro Hxl
  iapply (st_store_xl c f _ _) $$ [Hxl]
  · iexact Hxl
  iintro Hxl
  ihave Hxl := (show ((((c : Thread nD τ).loc cc0_scratch0) ↦{fullShare} k0_pay1 (xstg m ρ c)) : sProp 𝕄) ⊢ iprop(XOwn m ρ c ∗ Rows m ρ c) from xl_split m ρ c) $$ Hxl
  icases Hxl with ⟨Hown, Hrows⟩
  ihave HP := (sendP_intro m ρ c) $$ [HTk Hrows]
  · isplitl [HTk] <;> iassumption
  iapply (st_send m ρ c 1 (by decide) (by decide) _ (dev8_eq c) _ _ (off4_eq c 0) _ _ (k0_off3_eq c) _ _ (send_sem c 0) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (runs_ret c)
  iapply Hk
  isplitl [Hx]; · iexact Hx
  isplitl [Hown]; · iexact Hown
  isplitl [HP]; · iexact HP
  isplitl [HD]; · iexact HD
  isplitl [HS]; · iexact HS
  iexact HO

/-- Copies 2 and 3. -/
theorem part5_run (v2 : BitVec 32) (v124 : BitVec 32) (v125 : BitVec 32) (v130 : BitVec 1) {Q} :
    iprop(Ctx m ρ ∗ SendP m ρ c 2 ∗ DstX c 2 ∗ SentX c 2 ∗ OW c (dX c 2 + dA c 1) ∗ iprop(∀ (v164' : BitVec 32) (c8_i32_106' : BitVec 32) (v165' : BitVec 1) (zlast' : BitVec 32), iprop(SendP m ρ c 4 ∗ DstX c 4 ∗ SentX c 4 ∗ OW c (dX c 4 + dA c 1)) -∗ Q ⟨v164', c8_i32_106', v165', zlast'⟩))
      ⊢ runs c (k0_part5 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v124 v125 v130) Q := by
  rw [k0_part5_eq_skeleton]
  unfold k0_part5_skel Ctx
  simp only [semSignalWord, semWaitWord, Prog.lift, Prog.bind_op, Prog.bind_ret, Prog.pure_eq_ret, wp_deviceId]
  iintro ⟨⟨#HC, #Hlev⟩, HP, HD, HS, HO, Hk⟩
  iapply (st_send m ρ c 2 (by decide) (by decide) _ (dev9_eq c) _ _ (off4_eq c 1) _ _ (k0_off3_eq c) _ _ (send_sem c 1) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (st_send m ρ c 3 (by decide) (by decide) _ (dev10_eq c) _ _ (off4_eq c 2) _ _ (k0_off3_eq c) _ _ (send_sem c 2) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (runs_ret c)
  iapply Hk
  isplitl [HP]; · iexact HP
  isplitl [HD]; · iexact HD
  isplitl [HS]; · iexact HS
  iexact HO

/-- Copy 4. -/
theorem part6_run (v2 : BitVec 32) (v164 : BitVec 32) (c8_i32_106 : BitVec 32) (v165 : BitVec 1) (c1_i32_108 : BitVec 32) {Q} :
    iprop(Ctx m ρ ∗ SendP m ρ c 4 ∗ DstX c 4 ∗ SentX c 4 ∗ OW c (dX c 4 + dA c 1) ∗ iprop(iprop(SendP m ρ c 5 ∗ DstX c 5 ∗ SentX c 5 ∗ OW c (dX c 5 + dA c 1)) -∗ Q ⟨⟩))
      ⊢ runs c (k0_part6 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v164 c8_i32_106 v165 c1_i32_108) Q := by
  rw [k0_part6_eq_skeleton]
  unfold k0_part6_skel Ctx
  simp only [semSignalWord, semWaitWord, Prog.lift, Prog.bind_op, Prog.bind_ret, Prog.pure_eq_ret, wp_deviceId]
  iintro ⟨⟨#HC, #Hlev⟩, HP, HD, HS, HO, Hk⟩
  iapply (st_send m ρ c 4 (by decide) (by decide) _ (dev11_eq c) _ _ (off4_eq c 3) _ _ (k0_off3_eq c) _ _ (send_sem c 3) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (runs_ret c)
  iapply Hk
  isplitl [HP]; · iexact HP
  isplitl [HD]; · iexact HD
  isplitl [HS]; · iexact HS
  iexact HO

/-- Copies 5 and 6. -/
theorem part7_run (v2 : BitVec 32) {Q} :
    iprop(Ctx m ρ ∗ SendP m ρ c 5 ∗ DstX c 5 ∗ SentX c 5 ∗ OW c (dX c 5 + dA c 1) ∗ iprop(∀ (v237' : BitVec 32) (zlast' : BitVec 32), iprop(SendP m ρ c 7 ∗ DstX c 7 ∗ SentX c 7 ∗ OW c (dX c 7 + dA c 1)) -∗ Q ⟨v237', zlast'⟩))
      ⊢ runs c (k0_part7 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2) Q := by
  rw [k0_part7_eq_skeleton]
  unfold k0_part7_skel Ctx
  simp only [semSignalWord, semWaitWord, Prog.lift, Prog.bind_op, Prog.bind_ret, Prog.pure_eq_ret, wp_deviceId]
  iintro ⟨⟨#HC, #Hlev⟩, HP, HD, HS, HO, Hk⟩
  iapply (st_send m ρ c 5 (by decide) (by decide) _ (dev12_eq c) _ _ (off4_eq c 4) _ _ (k0_off3_eq c) _ _ (send_sem c 4) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (st_send m ρ c 6 (by decide) (by decide) _ (dev13_eq c) _ _ (off4_eq c 5) _ _ (k0_off3_eq c) _ _ (send_sem c 5) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (runs_ret c)
  iapply Hk
  isplitl [HP]; · iexact HP
  isplitl [HD]; · iexact HD
  isplitl [HS]; · iexact HS
  iexact HO

/-- Copy 7, and the first local copy. -/
theorem part8_run (v2 : BitVec 32) (v237 : BitVec 32) (c1_i32_152 : BitVec 32) {Q} :
    iprop(Ctx m ρ ∗ SendP m ρ c 7 ∗ DstX c 7 ∗ SentX c 7 ∗ OW c (dX c 7 + dA c 1) ∗ WP m c 0 ∗ WFree c 0 0 ∗ iprop(∀ (v267' : BitVec 32) (v268' : BitVec 32) (v269' : BitVec 1) (zlast' : BitVec 1), iprop(SendP m ρ c 8 ∗ DstX c 8 ∗ SentX c 8 ∗ OW c (dA c 1) ∗ WP m c 1 ∗ WBusy c 0 0) -∗ Q ⟨v267', v268', v269', zlast'⟩))
      ⊢ runs c (k0_part8 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v237 c1_i32_152) Q := by
  rw [k0_part8_eq_skeleton]
  unfold k0_part8_skel Ctx
  simp only [semSignalWord, semWaitWord, Prog.lift, Prog.bind_op, Prog.bind_ret, Prog.pure_eq_ret, wp_deviceId]
  iintro ⟨⟨#HC, #Hlev⟩, HP, HD, HS, HO, HW, Hb0, Hk⟩
  iapply (st_send m ρ c 7 (by decide) (by decide) _ (dev14_eq c) _ _ (off4_eq c 6) _ _ (k0_off3_eq c) _ _ (send_sem c 6) (recv_own_sem c) (dA c 1)) $$ [HP HD HS HO]
  · isplitr; · iexact HC
    isplitl [HP]; · iexact HP
    isplitl [HD]; · iexact HD
    isplitl [HS]; · iexact HS
    iexact HO
  iintro ⟨HP, HD, HS, HO⟩
  iapply (st_wcopy m ρ c 0 0 0 rfl rfl (by decide) rfl (by decide) _ _ (off5_eq c 0) _ _ rfl _ semw_eq0) $$ [HW Hb0]
  · isplitr; · iexact HC
    isplitl [HW]; · iexact HW
    iexact Hb0
  iintro ⟨HW, Hb0⟩
  rw [show dX c (7 + 1) = 0 from dX_end c, zero_add]
  iapply (runs_ret c)
  iapply Hk
  isplitl [HP]; · iexact HP
  isplitl [HD]; · iexact HD
  isplitl [HS]; · iexact HS
  isplitl [HO]; · iexact HO
  isplitl [HW]; · iexact HW
  iexact Hb0

end Parts

end Cert.KProof
-- ==== Proof.Parts2.lean ====
/-
# The products

The parts of the body from the second local copy to the last product: each waits for a block of `w` and for a block of
`x`, multiplies them and adds the product to the accumulator.
-/
module

public import proofs.«01_k».proof.Proof.Parts1

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Parts
variable (c : Dev nD) {α : Type} {Q : α → sProp (MT nD τ sig Unit (Elt F) ℕ UU ℕ)} {k : PUnit → Prog (TpuEff nD τ sig (Elt F) Λ₀ .tc) α}

/-- The first product is what the accumulator starts with. -/
theorem acc_zero : k0_pay2 (xsent m ρ c c) (unsqW (wblk m c (peer c 0))) = acc m ρ c 0 := by
  rw [peer_zero]; rfl
theorem pay4_eq : k0_pay4 (F := F) = k0_pay3 := rfl
theorem pay5_eq : k0_pay5 (F := F) = k0_pay3 := rfl
theorem pay6_eq : k0_pay6 (F := F) = k0_pay3 := rfl
theorem pay7_eq : k0_pay7 (F := F) = k0_pay3 := rfl
theorem pay8_eq : k0_pay8 (F := F) = k0_pay3 := rfl
theorem pay11_eq (a : FVec F S1x512x512 .bf16) (b : FVec F S1x512x2048 .f32) (d : FVec F S512x2048 .f32) :
    k0_pay11 (k0_pay9 a b) (k0_pay10 d) = k0_pay3 a b d := rfl

/-- The store of one more product added to the accumulator. -/
theorem st_store_acc (n : ℕ) (f : (cc0_stg1_0 : Ref sig .tc).ty.Contents (Elt F)) (inb : ∀ a, (![0, 0] : Fin 2 → ℕ) a + S512x2048.size a ≤ S512x2048.size a) {hx} {hm} :
    ((((c : Thread nD τ).loc cc0_stg1_0) ↦{fullShare} f) : sProp 𝕄)
      ⊢ iprop(((((c : Thread nD τ).loc cc0_stg1_0) ↦{fullShare} acc m ρ c (n + 1)) -∗ runs c (k ⟨⟩) Q)
        -∗ runs c (.op (.store oM (Rect.unit (s := S512x2048) ![0, 0] S512x2048.size inb)
            (k0_pay3 (unsqX (xsent m ρ (peer c (n + 1)) c)) (unsqW (wblk m c (peer c (n + 1)))) (acc m ρ c n)) Finset.univ hx hm) k) Q) :=
  st_store_out c f (acc m ρ c (n + 1)) inb

/-- The second local copy, the wait for the first, and the product of the device's own rows. -/
theorem part9_run (v2 : BitVec 32) (v267 : BitVec 32) (v268 : BitVec 32) (v269 : BitVec 1) (v272 : BitVec 1) {Q} :
    iprop(Ctx m ρ ∗ WFree c 1 0 ∗ WBusy c 0 0 ∗ WP m c 1 ∗ WOut m c 0 ∗ OW c (dA c 1) ∗ XOwn m ρ c ∗ iprop(iprop(WBusy c 1 0 ∗ WFull m c 0 1 0 ∗ WP m c 2 ∗ WOut m c 1 ∗ OW c (dA c 1) ∗ XOwn m ρ c) -∗ Q (acc m ρ c 0)))
      ⊢ runs c (k0_part9 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v267 v268 v269 v272) Q := by
  rw [k0_part9_eq_skeleton]
  unfold k0_part9_skel Ctx
  simp only [semSignalWord, semWaitWord, Prog.lift, Prog.bind_op, Prog.bind_ret, Prog.pure_eq_ret, wp_deviceId]
  iintro ⟨⟨#HC, #Hlev⟩, Hb1, Hb0, HW, HWO, HO, Hown, Hk⟩
  iapply (st_wcopy m ρ c 1 1 0 rfl rfl (by decide) rfl (by decide) _ _ (off5_eq c 1) _ _ rfl _ semw_eq1) $$ [HW Hb1]
  · isplitr; · iexact HC
    isplitl [HW]; · iexact HW
    iexact Hb1
  iintro ⟨HW, Hb1⟩
  iapply (st_wwait m ρ c 0 0 0 (by decide) rfl _ _ _ semw_eq0) $$ [Hb0 HWO HO]
  · isplitr; · iexact HC
    isplitr; · iexact Hlev
    isplitl [Hb0]; · iexact Hb0
    isplitl [HWO]; · iexact HWO
    iexact HO
  iintro ⟨Hb0, HWO, HO⟩
  iapply (st_load_own m ρ c _ _ (k0_off6_eq c)) $$ [Hown]
  · iexact Hown
  iintro Hown
  iapply (st_load_wb m c 0 0 1 _ _ rfl) $$ [Hb0]
  · iexact Hb0
  iintro Hb0
  rw [acc_zero m ρ c]
  iapply (runs_ret c)
  iapply Hk
  isplitl [Hb1]; · iexact Hb1
  isplitl [Hb0]; · iexact Hb0
  isplitl [HW]; · iexact HW
  isplitl [HWO]; · iexact HWO
  isplitl [HO]; · iexact HO
  iexact Hown

/-- The product's store, and the third local copy. -/
theorem part10_run (f : (cc0_stg1_0 : Ref sig .tc).ty.Contents (Elt F)) (v2 : BitVec 32) {Q} :
    iprop(Ctx m ρ ∗ (((c : Thread nD τ).loc cc0_stg1_0) ↦{fullShare} f) ∗ WFull m c 0 1 0 ∗ WP m c 2 ∗ iprop(∀ (v334' : BitVec 32) (v335' : BitVec 32) (zlast' : BitVec 32), iprop((((c : Thread nD τ).loc cc0_stg1_0) ↦{fullShare} acc m ρ c 0) ∗ WBusy c 0 1 ∗ WP m c 3) -∗ Q ⟨v334', v335', zlast'⟩))
      ⊢ runs c (k0_part10 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 (acc m ρ c 0)) Q := by
  rw [k0_part10_eq_skeleton]
  unfold k0_part10_skel Ctx
  simp only [semSignalWord, semWaitWord, Prog.lift, Prog.bind_op, Prog.bind_ret, Prog.pure_eq_ret, wp_deviceId]
  iintro ⟨⟨#HC, #Hlev⟩, Hout, Hb0, HW, Hk⟩
  iapply (st_load_out c fullShare f _) $$ [Hout]
  · iexact Hout
  iintro Hout
  iapply (st_store_out c f _ _) $$ [Hout]
  · iexact Hout
  iintro Hout
  ihave Hb0 := (wfull_free m c 0 1 0) $$ Hb0
  iapply (st_wcopy m ρ c 2 0 1 rfl rfl (by decide) rfl (by decide) _ _ (off5_eq c 2) _ _ rfl _ semw_eq0) $$ [HW Hb0]
  · isplitr; · iexact HC
    isplitl [HW]; · iexact HW
    iexact Hb0
  iintro ⟨HW, Hb0⟩
  iapply (runs_ret c)
  iapply Hk
  isplitl [Hout]; · iexact Hout
  isplitl [Hb0]; · iexact Hb0
  iexact HW

/-- The product of the rows received from the first peer, added to the accumulator. -/
theorem part11_run (v334 : BitVec 32) (v335 : BitVec 32) (v337 : BitVec 32) {Q} :
    iprop(Ctx m ρ ∗ WBusy c 1 0 ∗ WOut m c 1 ∗ OW c (dA c 1) ∗ RecvP c 1 ∗ RecvD m ρ c 1 ∗ (((c : Thread nD τ).loc cc0_stg1_0) ↦{fullShare} acc m ρ c 0) ∗ iprop(iprop(WFull m c 1 1 1 ∗ WOut m c 2 ∗ OW c (dA c 1) ∗ RecvP c 2 ∗ RecvD m ρ c 2 ∗ (((c : Thread nD τ).loc cc0_stg1_0) ↦{fullShare} acc m ρ c 1)) -∗ Q ⟨⟩))
      ⊢ runs c (k0_part11 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v334 v335 v337) Q := by
  rw [k0_part11_eq_skeleton]
  unfold k0_part11_skel Ctx
  simp only [semSignalWord, semWaitWord, Prog.lift, Prog.bind_op, Prog.bind_ret, Prog.pure_eq_ret, wp_deviceId]
  iintro ⟨⟨#HC, #Hlev⟩, Hb1, HWO, HO, HR, HRD, Hout, Hk⟩
  iapply (st_wwait m ρ c 1 1 0 (by decide) rfl _ _ _ semw_eq1) $$ [Hb1 HWO HO]
  · isplitr; · iexact HC
    isplitr; · iexact Hlev
    isplitl [Hb1]; · iexact Hb1
    isplitl [HWO]; · iexact HWO
    iexact HO
  iintro ⟨Hb1, HWO, HO⟩
  iapply (st_recv m ρ c 1 (by decide) (by decide) _ _ _ (recv_sem c 0)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 1 (by decide) _ _ (off8_eq c 0)) $$ [HRD]
  · iexact HRD
  iintro HRD
  iapply (st_load_wb m c 1 1 1 _ _ rfl) $$ [Hb1]
  · iexact Hb1
  iintro Hb1
  iapply (st_load_out c fullShare (acc m ρ c 0) _) $$ [Hout]
  · iexact Hout
  iintro Hout
  iapply (st_load_out c fullShare (acc m ρ c 0) _) $$ [Hout]
  · iexact Hout
  iintro Hout
  iapply (st_store_acc m ρ c 0 _ _) $$ [Hout]
  · iexact Hout
  iintro Hout
  iapply (runs_ret c)
  iapply Hk
  isplitl [Hb1]; · iexact Hb1
  isplitl [HWO]; · iexact HWO
  isplitl [HO]; · iexact HO
  isplitl [HR]; · iexact HR
  isplitl [HRD]; · iexact HRD
  iexact Hout

/-- The local copy of the third peer's block of `w`. -/
theorem part12_run (v2 : BitVec 32) {Q} :
    iprop(Ctx m ρ ∗ WFull m c 1 1 1 ∗ WP m c 3 ∗ iprop(∀ (v397' : BitVec 32) (v400' : BitVec 32) (v401' : BitVec 32) (v402' : BitVec 1) (zlast' : BitVec 32), iprop(WBusy c 1 1 ∗ WP m c 4) -∗ Q ⟨v397', v400', v401', v402', zlast'⟩))
      ⊢ runs c (k0_part12 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2) Q := by
  rw [k0_part12_eq_skeleton]
  unfold k0_part12_skel Ctx
  simp only [semSignalWord, semWaitWord, Prog.lift, Prog.bind_op, Prog.bind_ret, Prog.pure_eq_ret, wp_deviceId]
  iintro ⟨⟨#HC, #Hlev⟩, Hb1, HW, Hk⟩
  ihave Hb1 := (wfull_free m c 1 1 1) $$ Hb1
  iapply (st_wcopy m ρ c 3 1 1 rfl rfl (by decide) rfl (by decide) _ _ (off5_eq c 3) _ _ rfl _ semw_eq1) $$ [HW Hb1]
  · isplitr; · iexact HC
    isplitl [HW]; · iexact HW
    iexact Hb1
  iintro ⟨HW, Hb1⟩
  iapply (runs_ret c)
  iapply Hk
  isplitl [Hb1]; · iexact Hb1
  iexact HW

/-- The product of the rows received from the second peer, added to the accumulator. -/
theorem part13_run (v2 : BitVec 32) (v397 : BitVec 32) (v400 : BitVec 32) (v401 : BitVec 32) (v402 : BitVec 1) (c0_i32_276 : BitVec 32) {Q} :
    iprop(Ctx m ρ ∗ WBusy c 0 1 ∗ WOut m c 2 ∗ OW c (dA c 1) ∗ RecvP c 2 ∗ RecvD m ρ c 2 ∗ (((c : Thread nD τ).loc cc0_stg1_0) ↦{fullShare} acc m ρ c 1) ∗ iprop(∀ (v433' : BitVec 32) (c8_i32_301' : BitVec 32) (zlast' : BitVec 32), iprop(WFull m c 0 2 2 ∗ WOut m c 3 ∗ OW c (dA c 1) ∗ RecvP c 3 ∗ RecvD m ρ c 3 ∗ (((c : Thread nD τ).loc cc0_stg1_0) ↦{fullShare} acc m ρ c 2)) -∗ Q ⟨v433', c8_i32_301', zlast'⟩))
      ⊢ runs c (k0_part13 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v397 v400 v401 v402 c0_i32_276) Q := by
  rw [k0_part13_eq_skeleton]
  unfold k0_part13_skel Ctx
  simp only [semSignalWord, semWaitWord, Prog.lift, Prog.bind_op, Prog.bind_ret, Prog.pure_eq_ret, wp_deviceId]
  iintro ⟨⟨#HC, #Hlev⟩, Hb0, HWO, HO, HR, HRD, Hout, Hk⟩
  iapply (st_wwait m ρ c 2 0 1 (by decide) rfl _ _ _ semw_eq0) $$ [Hb0 HWO HO]
  · isplitr; · iexact HC
    isplitr; · iexact Hlev
    isplitl [Hb0]; · iexact Hb0
    isplitl [HWO]; · iexact HWO
    iexact HO
  iintro ⟨Hb0, HWO, HO⟩
  iapply (st_recv m ρ c 2 (by decide) (by decide) _ _ _ (recv_sem c 1)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 2 (by decide) _ _ (off8_eq c 1)) $$ [HRD]
  · iexact HRD
  iintro HRD
  iapply (st_load_wb m c 2 0 2 _ _ rfl) $$ [Hb0]
  · iexact Hb0
  iintro Hb0
  iapply (st_load_out c fullShare (acc m ρ c 1) _) $$ [Hout]
  · iexact Hout
  iintro Hout
  iapply (st_load_out c fullShare (acc m ρ c 1) _) $$ [Hout]
  · iexact Hout
  iintro Hout
  rw [pay4_eq]
  iapply (st_store_acc m ρ c 1 _ _) $$ [Hout]
  · iexact Hout
  iintro Hout
  iapply (runs_ret c)
  iapply Hk
  isplitl [Hb0]; · iexact Hb0
  isplitl [HWO]; · iexact HWO
  isplitl [HO]; · iexact HO
  isplitl [HR]; · iexact HR
  isplitl [HRD]; · iexact HRD
  iexact Hout

/-- The local copy of the fourth peer's block of `w`. -/
theorem part14_run (v2 : BitVec 32) (v433 : BitVec 32) (c8_i32_301 : BitVec 32) (c0_i32_302 : BitVec 32) {Q} :
    iprop(Ctx m ρ ∗ WFull m c 0 2 2 ∗ WP m c 4 ∗ iprop(∀ (v460' : BitVec 32) (v463' : BitVec 32) (v464' : BitVec 32) (v465' : BitVec 1) (zlast' : BitVec 1), iprop(WBusy c 0 2 ∗ WP m c 5) -∗ Q ⟨v460', v463', v464', v465', zlast'⟩))
      ⊢ runs c (k0_part14 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v433 c8_i32_301 c0_i32_302) Q := by
  rw [k0_part14_eq_skeleton]
  unfold k0_part14_skel Ctx
  simp only [semSignalWord, semWaitWord, Prog.lift, Prog.bind_op, Prog.bind_ret, Prog.pure_eq_ret, wp_deviceId]
  iintro ⟨⟨#HC, #Hlev⟩, Hb0, HW, Hk⟩
  ihave Hb0 := (wfull_free m c 0 2 2) $$ Hb0
  iapply (st_wcopy m ρ c 4 0 2 rfl rfl (by decide) rfl (by decide) _ _ (off5_eq c 4) _ _ rfl _ semw_eq0) $$ [HW Hb0]
  · isplitr; · iexact HC
    isplitl [HW]; · iexact HW
    iexact Hb0
  iintro ⟨HW, Hb0⟩
  iapply (runs_ret c)
  iapply Hk
  isplitl [Hb0]; · iexact Hb0
  iexact HW

/-- The product of the rows received from the third peer, added to the accumulator. -/
theorem part15_run (v2 : BitVec 32) (v460 : BitVec 32) (v463 : BitVec 32) (v464 : BitVec 32) (v465 : BitVec 1) (v468 : BitVec 1) {Q} :
    iprop(Ctx m ρ ∗ WBusy c 1 1 ∗ WOut m c 3 ∗ OW c (dA c 1) ∗ RecvP c 3 ∗ RecvD m ρ c 3 ∗ (((c : Thread nD τ).loc cc0_stg1_0) ↦{fullShare} acc m ρ c 2) ∗ iprop(∀ (v498' : BitVec 32) (zlast' : BitVec 32), iprop(WFull m c 1 2 3 ∗ WOut m c 4 ∗ OW c (dA c 1) ∗ RecvP c 4 ∗ RecvD m ρ c 4 ∗ (((c : Thread nD τ).loc cc0_stg1_0) ↦{fullShare} acc m ρ c 3)) -∗ Q ⟨v498', zlast'⟩))
      ⊢ runs c (k0_part15 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v460 v463 v464 v465 v468) Q := by
  rw [k0_part15_eq_skeleton]
  unfold k0_part15_skel Ctx
  simp only [semSignalWord, semWaitWord, Prog.lift, Prog.bind_op, Prog.bind_ret, Prog.pure_eq_ret, wp_deviceId]
  iintro ⟨⟨#HC, #Hlev⟩, Hb1, HWO, HO, HR, HRD, Hout, Hk⟩
  iapply (st_wwait m ρ c 3 1 1 (by decide) rfl _ _ _ semw_eq1) $$ [Hb1 HWO HO]
  · isplitr; · iexact HC
    isplitr; · iexact Hlev
    isplitl [Hb1]; · iexact Hb1
    isplitl [HWO]; · iexact HWO
    iexact HO
  iintro ⟨Hb1, HWO, HO⟩
  iapply (st_recv m ρ c 3 (by decide) (by decide) _ _ _ (recv_sem c 2)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 3 (by decide) _ _ (off8_eq c 2)) $$ [HRD]
  · iexact HRD
  iintro HRD
  iapply (st_load_wb m c 3 1 2 _ _ rfl) $$ [Hb1]
  · iexact Hb1
  iintro Hb1
  iapply (st_load_out c fullShare (acc m ρ c 2) _) $$ [Hout]
  · iexact Hout
  iintro Hout
  iapply (st_load_out c fullShare (acc m ρ c 2) _) $$ [Hout]
  · iexact Hout
  iintro Hout
  rw [pay5_eq]
  iapply (st_store_acc m ρ c 2 _ _) $$ [Hout]
  · iexact Hout
  iintro Hout
  iapply (runs_ret c)
  iapply Hk
  isplitl [Hb1]; · iexact Hb1
  isplitl [HWO]; · iexact HWO
  isplitl [HO]; · iexact HO
  isplitl [HR]; · iexact HR
  isplitl [HRD]; · iexact HRD
  iexact Hout

/-- The local copy of the fifth peer's block of `w`. -/
theorem part16_run (v2 : BitVec 32) (v498 : BitVec 32) (v499 : BitVec 32) {Q} :
    iprop(Ctx m ρ ∗ WFull m c 1 2 3 ∗ WP m c 5 ∗ iprop(∀ (v523' : BitVec 32) (v534' : BitVec 32) (zlast' : BitVec 32), iprop(WBusy c 1 2 ∗ WP m c 6) -∗ Q ⟨v523', v534', zlast'⟩))
      ⊢ runs c (k0_part16 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v498 v499) Q := by
  rw [k0_part16_eq_skeleton]
  unfold k0_part16_skel Ctx
  simp only [semSignalWord, semWaitWord, Prog.lift, Prog.bind_op, Prog.bind_ret, Prog.pure_eq_ret, wp_deviceId]
  iintro ⟨⟨#HC, #Hlev⟩, Hb1, HW, Hk⟩
  ihave Hb1 := (wfull_free m c 1 2 3) $$ Hb1
  iapply (st_wcopy m ρ c 5 1 2 rfl rfl (by decide) rfl (by decide) _ _ (off5_eq c 5) _ _ rfl _ semw_eq1) $$ [HW Hb1]
  · isplitr; · iexact HC
    isplitl [HW]; · iexact HW
    iexact Hb1
  iintro ⟨HW, Hb1⟩
  iapply (runs_ret c)
  iapply Hk
  isplitl [Hb1]; · iexact Hb1
  iexact HW

/-- The product of the rows received from the fourth peer, added to the accumulator. -/
theorem part17_run (v2 : BitVec 32) (v523 : BitVec 32) (v534 : BitVec 32) (c512_i32_376 : BitVec 32) {Q} :
    iprop(Ctx m ρ ∗ WBusy c 0 2 ∗ WOut m c 4 ∗ OW c (dA c 1) ∗ RecvP c 4 ∗ RecvD m ρ c 4 ∗ (((c : Thread nD τ).loc cc0_stg1_0) ↦{fullShare} acc m ρ c 3) ∗ iprop(∀ (v561' : BitVec 32) (v562' : BitVec 32) (v563' : BitVec 1) (zlast' : BitVec 1), iprop(WFull m c 0 3 4 ∗ WOut m c 5 ∗ OW c (dA c 1) ∗ RecvP c 5 ∗ RecvD m ρ c 5 ∗ (((c : Thread nD τ).loc cc0_stg1_0) ↦{fullShare} acc m ρ c 4)) -∗ Q ⟨v561', v562', v563', zlast'⟩))
      ⊢ runs c (k0_part17 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v523 v534 c512_i32_376) Q := by
  rw [k0_part17_eq_skeleton]
  unfold k0_part17_skel Ctx
  simp only [semSignalWord, semWaitWord, Prog.lift, Prog.bind_op, Prog.bind_ret, Prog.pure_eq_ret, wp_deviceId]
  iintro ⟨⟨#HC, #Hlev⟩, Hb0, HWO, HO, HR, HRD, Hout, Hk⟩
  iapply (st_wwait m ρ c 4 0 2 (by decide) rfl _ _ _ semw_eq0) $$ [Hb0 HWO HO]
  · isplitr; · iexact HC
    isplitr; · iexact Hlev
    isplitl [Hb0]; · iexact Hb0
    isplitl [HWO]; · iexact HWO
    iexact HO
  iintro ⟨Hb0, HWO, HO⟩
  iapply (st_recv m ρ c 4 (by decide) (by decide) _ _ _ (recv_sem c 3)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 4 (by decide) _ _ (off8_eq c 3)) $$ [HRD]
  · iexact HRD
  iintro HRD
  iapply (st_load_wb m c 4 0 3 _ _ rfl) $$ [Hb0]
  · iexact Hb0
  iintro Hb0
  iapply (st_load_out c fullShare (acc m ρ c 3) _) $$ [Hout]
  · iexact Hout
  iintro Hout
  iapply (st_load_out c fullShare (acc m ρ c 3) _) $$ [Hout]
  · iexact Hout
  iintro Hout
  rw [pay6_eq]
  iapply (st_store_acc m ρ c 3 _ _) $$ [Hout]
  · iexact Hout
  iintro Hout
  iapply (runs_ret c)
  iapply Hk
  isplitl [Hb0]; · iexact Hb0
  isplitl [HWO]; · iexact HWO
  isplitl [HO]; · iexact HO
  isplitl [HR]; · iexact HR
  isplitl [HRD]; · iexact HRD
  iexact Hout

/-- The local copy of the sixth peer's block of `w`. -/
theorem part18_run (v2 : BitVec 32) (v561 : BitVec 32) (v562 : BitVec 32) (v563 : BitVec 1) (v564 : BitVec 1) {Q} :
    iprop(Ctx m ρ ∗ WFull m c 0 3 4 ∗ WP m c 6 ∗ iprop(∀ v, iprop(WBusy c 0 3 ∗ WP m c 7) -∗ Q v))
      ⊢ runs c (k0_part18 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v561 v562 v563 v564) Q := by
  rw [k0_part18_eq_skeleton]
  unfold k0_part18_skel Ctx
  simp only [semSignalWord, semWaitWord, Prog.lift, Prog.bind_op, Prog.bind_ret, Prog.pure_eq_ret, wp_deviceId]
  iintro ⟨⟨#HC, #Hlev⟩, Hb0, HW, Hk⟩
  ihave Hb0 := (wfull_free m c 0 3 4) $$ Hb0
  iapply (st_wcopy m ρ c 6 0 3 rfl rfl (by decide) rfl (by decide) _ _ (off5_eq c 6) _ _ rfl _ semw_eq0) $$ [HW Hb0]
  · isplitr; · iexact HC
    isplitl [HW]; · iexact HW
    iexact Hb0
  iintro ⟨HW, Hb0⟩
  iapply (runs_ret c)
  iapply Hk
  isplitl [Hb0]; · iexact Hb0
  iexact HW

/-- The product of the rows received from the fifth peer, added to the accumulator. -/
theorem part19_run (v2 : BitVec 32) (v586 : BitVec 32) {Q} :
    iprop(Ctx m ρ ∗ WBusy c 1 2 ∗ WOut m c 5 ∗ OW c (dA c 1) ∗ RecvP c 5 ∗ RecvD m ρ c 5 ∗ (((c : Thread nD τ).loc cc0_stg1_0) ↦{fullShare} acc m ρ c 4) ∗ iprop(∀ (v624' : BitVec 32) (v625' : BitVec 32) (zlast' : BitVec 1), iprop(WFull m c 1 3 5 ∗ WOut m c 6 ∗ OW c (dA c 1) ∗ RecvP c 6 ∗ RecvD m ρ c 6 ∗ (((c : Thread nD τ).loc cc0_stg1_0) ↦{fullShare} acc m ρ c 5)) -∗ Q ⟨v624', v625', zlast'⟩))
      ⊢ runs c (k0_part19 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v586) Q := by
  rw [k0_part19_eq_skeleton]
  unfold k0_part19_skel Ctx
  simp only [semSignalWord, semWaitWord, Prog.lift, Prog.bind_op, Prog.bind_ret, Prog.pure_eq_ret, wp_deviceId]
  iintro ⟨⟨#HC, #Hlev⟩, Hb1, HWO, HO, HR, HRD, Hout, Hk⟩
  iapply (st_wwait m ρ c 5 1 2 (by decide) rfl _ _ _ semw_eq1) $$ [Hb1 HWO HO]
  · isplitr; · iexact HC
    isplitr; · iexact Hlev
    isplitl [Hb1]; · iexact Hb1
    isplitl [HWO]; · iexact HWO
    iexact HO
  iintro ⟨Hb1, HWO, HO⟩
  iapply (st_recv m ρ c 5 (by decide) (by decide) _ _ _ (recv_sem c 4)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 5 (by decide) _ _ (off8_eq c 4)) $$ [HRD]
  · iexact HRD
  iintro HRD
  iapply (st_load_wb m c 5 1 3 _ _ rfl) $$ [Hb1]
  · iexact Hb1
  iintro Hb1
  iapply (st_load_out c fullShare (acc m ρ c 4) _) $$ [Hout]
  · iexact Hout
  iintro Hout
  iapply (st_load_out c fullShare (acc m ρ c 4) _) $$ [Hout]
  · iexact Hout
  iintro Hout
  rw [pay7_eq]
  iapply (st_store_acc m ρ c 4 _ _) $$ [Hout]
  · iexact Hout
  iintro Hout
  iapply (runs_ret c)
  iapply Hk
  isplitl [Hb1]; · iexact Hb1
  isplitl [HWO]; · iexact HWO
  isplitl [HO]; · iexact HO
  isplitl [HR]; · iexact HR
  isplitl [HRD]; · iexact HRD
  iexact Hout

/-- The local copy of the seventh peer's block of `w`. -/
theorem part20_run (v2 : BitVec 32) (v624 : BitVec 32) (v625 : BitVec 32) (v630 : BitVec 1) {Q} :
    iprop(Ctx m ρ ∗ WFull m c 1 3 5 ∗ WP m c 7 ∗ iprop(∀ v, iprop(WBusy c 1 3 ∗ WP m c 8) -∗ Q v))
      ⊢ runs c (k0_part20 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v624 v625 v630) Q := by
  rw [k0_part20_eq_skeleton]
  unfold k0_part20_skel Ctx
  simp only [semSignalWord, semWaitWord, Prog.lift, Prog.bind_op, Prog.bind_ret, Prog.pure_eq_ret, wp_deviceId]
  iintro ⟨⟨#HC, #Hlev⟩, Hb1, HW, Hk⟩
  ihave Hb1 := (wfull_free m c 1 3 5) $$ Hb1
  iapply (st_wcopy m ρ c 7 1 3 rfl rfl (by decide) rfl (by decide) _ _ (off5_eq c 7) _ _ rfl _ semw_eq1) $$ [HW Hb1]
  · isplitr; · iexact HC
    isplitl [HW]; · iexact HW
    iexact Hb1
  iintro ⟨HW, Hb1⟩
  iapply (runs_ret c)
  iapply Hk
  isplitl [Hb1]; · iexact Hb1
  iexact HW

/-- The product of the rows received from the sixth peer, added to the accumulator. -/
theorem part21_run (v2 : BitVec 32) (v649 : BitVec 32) {Q} :
    iprop(Ctx m ρ ∗ WBusy c 0 3 ∗ WOut m c 6 ∗ OW c (dA c 1) ∗ RecvP c 6 ∗ RecvD m ρ c 6 ∗ (((c : Thread nD τ).loc cc0_stg1_0) ↦{fullShare} acc m ρ c 5) ∗ iprop(∀ (v695' : BitVec 32) (zlast' : BitVec 32), iprop(WFull m c 0 4 6 ∗ WOut m c 7 ∗ OW c (dA c 1) ∗ RecvP c 7 ∗ RecvD m ρ c 7 ∗ (((c : Thread nD τ).loc cc0_stg1_0) ↦{fullShare} acc m ρ c 6)) -∗ Q ⟨v695', zlast'⟩))
      ⊢ runs c (k0_part21 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v649) Q := by
  rw [k0_part21_eq_skeleton]
  unfold k0_part21_skel Ctx
  simp only [semSignalWord, semWaitWord, Prog.lift, Prog.bind_op, Prog.bind_ret, Prog.pure_eq_ret, wp_deviceId]
  iintro ⟨⟨#HC, #Hlev⟩, Hb0, HWO, HO, HR, HRD, Hout, Hk⟩
  iapply (st_wwait m ρ c 6 0 3 (by decide) rfl _ _ _ semw_eq0) $$ [Hb0 HWO HO]
  · isplitr; · iexact HC
    isplitr; · iexact Hlev
    isplitl [Hb0]; · iexact Hb0
    isplitl [HWO]; · iexact HWO
    iexact HO
  iintro ⟨Hb0, HWO, HO⟩
  iapply (st_recv m ρ c 6 (by decide) (by decide) _ _ _ (recv_sem c 5)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 6 (by decide) _ _ (off8_eq c 5)) $$ [HRD]
  · iexact HRD
  iintro HRD
  iapply (st_load_wb m c 6 0 4 _ _ rfl) $$ [Hb0]
  · iexact Hb0
  iintro Hb0
  iapply (st_load_out c fullShare (acc m ρ c 5) _) $$ [Hout]
  · iexact Hout
  iintro Hout
  iapply (st_load_out c fullShare (acc m ρ c 5) _) $$ [Hout]
  · iexact Hout
  iintro Hout
  rw [pay8_eq]
  iapply (st_store_acc m ρ c 5 _ _) $$ [Hout]
  · iexact Hout
  iintro Hout
  iapply (runs_ret c)
  iapply Hk
  isplitl [Hb0]; · iexact Hb0
  isplitl [HWO]; · iexact HWO
  isplitl [HO]; · iexact HO
  isplitl [HR]; · iexact HR
  isplitl [HRD]; · iexact HRD
  iexact Hout

/-- The last product. -/
theorem part22_run (v695 : BitVec 32) (v696 : BitVec 32) {Q} :
    iprop(Ctx m ρ ∗ WBusy c 1 3 ∗ WOut m c 7 ∗ OW c (dA c 1) ∗ RecvP c 7 ∗ RecvD m ρ c 7 ∗ (((c : Thread nD τ).loc cc0_stg1_0) ↦{fullShare} acc m ρ c 6) ∗ iprop(iprop(WFull m c 1 4 7 ∗ WOut m c 8 ∗ OW c (dA c 1) ∗ RecvP c 8 ∗ RecvD m ρ c 8 ∗ (((c : Thread nD τ).loc cc0_stg1_0) ↦{fullShare} acc m ρ c 6)) -∗ Q ⟨k0_pay9 (unsqX (xsent m ρ (peer c 7) c)) (unsqW (wblk m c (peer c 7))), k0_pay10 (acc m ρ c 6)⟩))
      ⊢ runs c (k0_part22 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v695 v696) Q := by
  rw [k0_part22_eq_skeleton]
  unfold k0_part22_skel Ctx
  simp only [semSignalWord, semWaitWord, Prog.lift, Prog.bind_op, Prog.bind_ret, Prog.pure_eq_ret, wp_deviceId]
  iintro ⟨⟨#HC, #Hlev⟩, Hb1, HWO, HO, HR, HRD, Hout, Hk⟩
  iapply (st_wwait m ρ c 7 1 3 (by decide) rfl _ _ _ semw_eq1) $$ [Hb1 HWO HO]
  · isplitr; · iexact HC
    isplitr; · iexact Hlev
    isplitl [Hb1]; · iexact Hb1
    isplitl [HWO]; · iexact HWO
    iexact HO
  iintro ⟨Hb1, HWO, HO⟩
  iapply (st_recv m ρ c 7 (by decide) (by decide) _ _ _ (recv_sem c 6)) $$ [HR HRD HO]
  · isplitr; · iexact HC
    isplitr; · iexact Hlev
    isplitl [HR]; · iexact HR
    isplitl [HRD]; · iexact HRD
    iexact HO
  iintro ⟨HR, HRD, HO⟩
  iapply (st_load_xg m ρ c 7 (by decide) _ _ (off8_eq c 6)) $$ [HRD]
  · iexact HRD
  iintro HRD
  iapply (st_load_wb m c 7 1 4 _ _ rfl) $$ [Hb1]
  · iexact Hb1
  iintro Hb1
  iapply (st_load_out c fullShare (acc m ρ c 6) _) $$ [Hout]
  · iexact Hout
  iintro Hout
  iapply (runs_ret c)
  iapply Hk
  isplitl [Hb1]; · iexact Hb1
  isplitl [HWO]; · iexact HWO
  isplitl [HO]; · iexact HO
  isplitl [HR]; · iexact HR
  isplitl [HRD]; · iexact HRD
  iexact Hout

end Parts

end Cert.KProof
-- ==== Proof.Parts3.lean ====
/-
# The maxima and the result

The parts of the body from the exchange of the maxima to the last waits.
-/
module

public import proofs.«01_k».proof.Proof.Parts2

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Parts
variable (c : Dev nD) {α : Type} {Q : α → sProp (MT nD τ sig Unit (Elt F) ℕ UU ℕ)} {k : PUnit → Prog (TpuEff nD τ sig (Elt F) Λ₀ .tc) α}

/-- The last product added, the maximum stored in the device's own slot, and the first copy of it. -/
theorem part23_run (v2 : BitVec 32) {Q} :
    iprop(Ctx m ρ ∗ (((c : Thread nD τ).loc cc0_stg1_0) ↦{fullShare} acc m ρ c 6) ∗ free c (amV c) ∗ ASendP c 1 ∗ DstA c 1 ∗ SentA c 1 ∗ OW c (dA c 1) ∗ iprop(∀ v, iprop((((c : Thread nD τ).loc cc0_stg1_0) ↦{fullShare} acc m ρ c 7) ∗ owns (c : Thread nD τ) (amV c) (lent 0) (am m ρ c) ∗ ASendP c 2 ∗ DstA c 2 ∗ OwnA m ρ c 2 ∗ SentA c 2 ∗ OW c (dA c 2)) -∗ Q v))
      ⊢ runs c (k0_part23 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 (k0_pay9 (unsqX (xsent m ρ (peer c 7) c)) (unsqW (wblk m c (peer c 7)))) (k0_pay10 (acc m ρ c 6))) Q := by
  rw [k0_part23_eq_skeleton]
  unfold k0_part23_skel Ctx
  simp only [semSignalWord, semWaitWord, Prog.lift, Prog.bind_op, Prog.bind_ret, Prog.pure_eq_ret, wp_deviceId]
  iintro ⟨⟨#HC, #Hlev⟩, Hout, Hfr, HP, HD, HS, HO, Hk⟩
  iapply (st_load_out c fullShare (acc m ρ c 6) _) $$ [Hout]
  · iexact Hout
  iintro Hout
  rw [pay11_eq]
  iapply (st_store_acc m ρ c 6 _ _) $$ [Hout]
  · iexact Hout
  iintro Hout
  iapply (st_load_out c fullShare (acc m ρ c (6 + 1)) _) $$ [Hout]
  · iexact Hout
  iintro Hout
  iapply (st_load_slot c _ _ (k0_off9_eq c)) $$ [Hfr]
  · iexact Hfr
  iintro %v Hfr
  iapply (st_store_slot m ρ c _ _ (k0_off9_eq c)) $$ [Hfr]
  · iexact Hfr
  iintro ⟨HA, Hl0⟩
  iapply (st_asend m ρ c 1 (by decide) (by decide) _ (dev15_eq c) _ _ (k0_off10_eq c) _ _ (asend_sem c 0) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  iapply (runs_ret c)
  iapply Hk
  isplitl [Hout]; · iexact Hout
  isplitl [Hl0]; · iexact Hl0
  isplitl [HP]; · iexact HP
  isplitl [HD]; · iexact HD
  isplitl [HA]; · iexact HA
  isplitl [HS]; · iexact HS
  iexact HO

/-- The second copy of the maximum. -/
theorem part24_run (v2 : BitVec 32) (v764 : BitVec 32) {Q} :
    iprop(Ctx m ρ ∗ ASendP c 2 ∗ DstA c 2 ∗ OwnA m ρ c 2 ∗ SentA c 2 ∗ OW c (dA c 2) ∗ iprop(iprop(ASendP c 3 ∗ DstA c 3 ∗ OwnA m ρ c 3 ∗ SentA c 3 ∗ OW c (dA c 3)) -∗ Q ⟨⟩))
      ⊢ runs c (k0_part24 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v764) Q := by
  rw [k0_part24_eq_skeleton]
  unfold k0_part24_skel Ctx
  simp only [semSignalWord, semWaitWord, Prog.lift, Prog.bind_op, Prog.bind_ret, Prog.pure_eq_ret, wp_deviceId]
  iintro ⟨⟨#HC, #Hlev⟩, HP, HD, HA, HS, HO, Hk⟩
  iapply (st_asend m ρ c 2 (by decide) (by decide) _ (dev16_eq c) _ _ (k0_off10_eq c) _ _ (asend_sem c 1) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  iapply (runs_ret c)
  iapply Hk
  isplitl [HP]; · iexact HP
  isplitl [HD]; · iexact HD
  isplitl [HA]; · iexact HA
  isplitl [HS]; · iexact HS
  iexact HO

/-- The third and fourth. -/
theorem part25_run (v2 : BitVec 32) {Q} :
    iprop(Ctx m ρ ∗ ASendP c 3 ∗ DstA c 3 ∗ OwnA m ρ c 3 ∗ SentA c 3 ∗ OW c (dA c 3) ∗ iprop(∀ (v830' : BitVec 32) (v835' : BitVec 1) (zlast' : BitVec 32), iprop(ASendP c 5 ∗ DstA c 5 ∗ OwnA m ρ c 5 ∗ SentA c 5 ∗ OW c (dA c 5)) -∗ Q ⟨v830', v835', zlast'⟩))
      ⊢ runs c (k0_part25 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2) Q := by
  rw [k0_part25_eq_skeleton]
  unfold k0_part25_skel Ctx
  simp only [semSignalWord, semWaitWord, Prog.lift, Prog.bind_op, Prog.bind_ret, Prog.pure_eq_ret, wp_deviceId]
  iintro ⟨⟨#HC, #Hlev⟩, HP, HD, HA, HS, HO, Hk⟩
  iapply (st_asend m ρ c 3 (by decide) (by decide) _ (dev17_eq c) _ _ (k0_off10_eq c) _ _ (asend_sem c 2) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  iapply (st_asend m ρ c 4 (by decide) (by decide) _ (dev18_eq c) _ _ (k0_off10_eq c) _ _ (asend_sem c 3) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  iapply (runs_ret c)
  iapply Hk
  isplitl [HP]; · iexact HP
  isplitl [HD]; · iexact HD
  isplitl [HA]; · iexact HA
  isplitl [HS]; · iexact HS
  iexact HO

/-- The fifth and sixth. -/
theorem part26_run (v2 : BitVec 32) (v830 : BitVec 32) (v835 : BitVec 1) (v836 : BitVec 32) {Q} :
    iprop(Ctx m ρ ∗ ASendP c 5 ∗ DstA c 5 ∗ OwnA m ρ c 5 ∗ SentA c 5 ∗ OW c (dA c 5) ∗ iprop(∀ (v869' : BitVec 32) (zlast' : BitVec 32), iprop(ASendP c 7 ∗ DstA c 7 ∗ OwnA m ρ c 7 ∗ SentA c 7 ∗ OW c (dA c 7)) -∗ Q ⟨v869', zlast'⟩))
      ⊢ runs c (k0_part26 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v830 v835 v836) Q := by
  rw [k0_part26_eq_skeleton]
  unfold k0_part26_skel Ctx
  simp only [semSignalWord, semWaitWord, Prog.lift, Prog.bind_op, Prog.bind_ret, Prog.pure_eq_ret, wp_deviceId]
  iintro ⟨⟨#HC, #Hlev⟩, HP, HD, HA, HS, HO, Hk⟩
  iapply (st_asend m ρ c 5 (by decide) (by decide) _ (dev19_eq c) _ _ (k0_off10_eq c) _ _ (asend_sem c 4) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  iapply (st_asend m ρ c 6 (by decide) (by decide) _ (dev20_eq c) _ _ (k0_off10_eq c) _ _ (asend_sem c 5) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  iapply (runs_ret c)
  iapply Hk
  isplitl [HP]; · iexact HP
  isplitl [HD]; · iexact HD
  isplitl [HA]; · iexact HA
  isplitl [HS]; · iexact HS
  iexact HO

/-- The seventh. -/
theorem part27_run (v2 : BitVec 32) (v869 : BitVec 32) (v871 : BitVec 32) {Q} :
    iprop(Ctx m ρ ∗ ASendP c 7 ∗ DstA c 7 ∗ OwnA m ρ c 7 ∗ SentA c 7 ∗ OW c (dA c 7) ∗ iprop(iprop(ASendP c 8 ∗ DstA c 8 ∗ OwnA m ρ c 8 ∗ SentA c 8 ∗ OW c 0) -∗ Q ⟨⟩))
      ⊢ runs c (k0_part27 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v869 v871) Q := by
  rw [k0_part27_eq_skeleton]
  unfold k0_part27_skel Ctx
  simp only [semSignalWord, semWaitWord, Prog.lift, Prog.bind_op, Prog.bind_ret, Prog.pure_eq_ret, wp_deviceId]
  iintro ⟨⟨#HC, #Hlev⟩, HP, HD, HA, HS, HO, Hk⟩
  iapply (st_asend m ρ c 7 (by decide) (by decide) _ (dev21_eq c) _ _ (k0_off10_eq c) _ _ (asend_sem c 6) (arecv_own_sem c)) $$ [HP HD HA HS HO]
  · isplitr; · iexact HC
    isplitl [HP]; · iexact HP
    isplitl [HD]; · iexact HD
    isplitl [HA]; · iexact HA
    isplitl [HS]; · iexact HS
    iexact HO
  iintro ⟨HP, HD, HA, HS, HO⟩
  rw [show dA c (7 + 1) = 0 from dA_end c]
  iapply (runs_ret c)
  iapply Hk
  isplitl [HP]; · iexact HP
  isplitl [HD]; · iexact HD
  isplitl [HA]; · iexact HA
  isplitl [HS]; · iexact HS
  iexact HO

/-- The waits for the first two maxima. -/
theorem part28_run (v2 : BitVec 32) {Q} :
    iprop(Ctx m ρ ∗ ARecvP c 1 ∗ ARecvD m ρ c 1 ∗ OW c 0 ∗ iprop(iprop(ARecvP c 3 ∗ ARecvD m ρ c 3 ∗ OW c 0) -∗ Q ⟨⟩))
      ⊢ runs c (k0_part28 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2) Q := by
  rw [k0_part28_eq_skeleton]
  unfold k0_part28_skel Ctx
  simp only [semSignalWord, semWaitWord, Prog.lift, Prog.bind_op, Prog.bind_ret, Prog.pure_eq_ret, wp_deviceId]
  iintro ⟨⟨#HC, #Hlev⟩, HRP, HRD, HO, Hk⟩
  iapply (st_arecv m ρ c 1 (by decide) (by decide) _ _ _ (arecv_sem c 0)) $$ [HRP HRD HO]
  · isplitr; · iexact HC
    isplitr; · iexact Hlev
    isplitl [HRP]; · iexact HRP
    isplitl [HRD]; · iexact HRD
    iexact HO
  iintro ⟨HRP, HRD, HO⟩
  iapply (st_arecv m ρ c 2 (by decide) (by decide) _ _ _ (arecv_sem c 1)) $$ [HRP HRD HO]
  · isplitr; · iexact HC
    isplitr; · iexact Hlev
    isplitl [HRP]; · iexact HRP
    isplitl [HRD]; · iexact HRD
    iexact HO
  iintro ⟨HRP, HRD, HO⟩
  iapply (runs_ret c)
  iapply Hk
  isplitl [HRP]; · iexact HRP
  isplitl [HRD]; · iexact HRD
  iexact HO

/-- Two more. -/
theorem part29_run (v2 : BitVec 32) {Q} :
    iprop(Ctx m ρ ∗ ARecvP c 3 ∗ ARecvD m ρ c 3 ∗ OW c 0 ∗ iprop(∀ v, iprop(ARecvP c 5 ∗ ARecvD m ρ c 5 ∗ OW c 0) -∗ Q v))
      ⊢ runs c (k0_part29 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2) Q := by
  rw [k0_part29_eq_skeleton]
  unfold k0_part29_skel Ctx
  simp only [semSignalWord, semWaitWord, Prog.lift, Prog.bind_op, Prog.bind_ret, Prog.pure_eq_ret, wp_deviceId]
  iintro ⟨⟨#HC, #Hlev⟩, HRP, HRD, HO, Hk⟩
  iapply (st_arecv m ρ c 3 (by decide) (by decide) _ _ _ (arecv_sem c 2)) $$ [HRP HRD HO]
  · isplitr; · iexact HC
    isplitr; · iexact Hlev
    isplitl [HRP]; · iexact HRP
    isplitl [HRD]; · iexact HRD
    iexact HO
  iintro ⟨HRP, HRD, HO⟩
  iapply (st_arecv m ρ c 4 (by decide) (by decide) _ _ _ (arecv_sem c 3)) $$ [HRP HRD HO]
  · isplitr; · iexact HC
    isplitr; · iexact Hlev
    isplitl [HRP]; · iexact HRP
    isplitl [HRD]; · iexact HRD
    iexact HO
  iintro ⟨HRP, HRD, HO⟩
  iapply (runs_ret c)
  iapply Hk
  isplitl [HRP]; · iexact HRP
  isplitl [HRD]; · iexact HRD
  iexact HO

/-- Two more. -/
theorem part30_run (v2 : BitVec 32) (v977 : BitVec 32) {Q} :
    iprop(Ctx m ρ ∗ ARecvP c 5 ∗ ARecvD m ρ c 5 ∗ OW c 0 ∗ iprop(∀ (v1006' : BitVec 32) (v1007' : BitVec 32) (v1008' : BitVec 1) (v1009' : BitVec 1) (zlast' : BitVec 1), iprop(ARecvP c 7 ∗ ARecvD m ρ c 7 ∗ OW c 0) -∗ Q ⟨v1006', v1007', v1008', v1009', zlast'⟩))
      ⊢ runs c (k0_part30 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v2 v977) Q := by
  rw [k0_part30_eq_skeleton]
  unfold k0_part30_skel Ctx
  simp only [semSignalWord, semWaitWord, Prog.lift, Prog.bind_op, Prog.bind_ret, Prog.pure_eq_ret, wp_deviceId]
  iintro ⟨⟨#HC, #Hlev⟩, HRP, HRD, HO, Hk⟩
  iapply (st_arecv m ρ c 5 (by decide) (by decide) _ _ _ (arecv_sem c 4)) $$ [HRP HRD HO]
  · isplitr; · iexact HC
    isplitr; · iexact Hlev
    isplitl [HRP]; · iexact HRP
    isplitl [HRD]; · iexact HRD
    iexact HO
  iintro ⟨HRP, HRD, HO⟩
  iapply (st_arecv m ρ c 6 (by decide) (by decide) _ _ _ (arecv_sem c 5)) $$ [HRP HRD HO]
  · isplitr; · iexact HC
    isplitr; · iexact Hlev
    isplitl [HRP]; · iexact HRP
    isplitl [HRD]; · iexact HRD
    iexact HO
  iintro ⟨HRP, HRD, HO⟩
  iapply (runs_ret c)
  iapply Hk
  isplitl [HRP]; · iexact HRP
  isplitl [HRD]; · iexact HRD
  iexact HO

/-- The last maximum, the quantised result, and the first wait for a copy of `x` to have left. -/
theorem part31_run (v1006 : BitVec 32) (v1007 : BitVec 32) (v1008 : BitVec 1) (v1009 : BitVec 1) (v1010 : BitVec 1) {Q} :
    iprop(Ctx m ρ ∗ ARecvP c 7 ∗ ARecvD m ρ c 7 ∗ OwnA m ρ c 8 ∗ (((c : Thread nD τ).loc cc0_stg1_0) ↦{fullShare} acc m ρ c 7) ∗ SendW c 1 ∗ SendD m ρ c 1 ∗ OW c 0 ∗ iprop(iprop(ARecvP c 8 ∗ ARecvD m ρ c 8 ∗ OwnA m ρ c 8 ∗ (((c : Thread nD τ).loc cc0_stg1_0) ↦{fullShare} outAt m ρ c) ∗ SendW c 2 ∗ SendD m ρ c 2 ∗ OW c 0) -∗ Q ⟨⟩))
      ⊢ runs c (k0_part31 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c v1006 v1007 v1008 v1009 v1010) Q := by
  rw [k0_part31_eq_skeleton]
  unfold k0_part31_skel Ctx
  simp only [semSignalWord, semWaitWord, Prog.lift, Prog.bind_op, Prog.bind_ret, Prog.pure_eq_ret, wp_deviceId]
  iintro ⟨⟨#HC, #Hlev⟩, HRP, HRD, HA, Hout, HSW, HSD, HO, Hk⟩
  iapply (st_arecv m ρ c 7 (by decide) (by decide) _ _ _ (arecv_sem c 6)) $$ [HRP HRD HO]
  · isplitr; · iexact HC
    isplitr; · iexact Hlev
    isplitl [HRP]; · iexact HRP
    isplitl [HRD]; · iexact HRD
    iexact HO
  iintro ⟨HRP, HRD, HO⟩
  ihave Ham := (am_read m ρ c) $$ [HA HRD]
  · isplitl [HA]
    · iexact HA
    · iexact HRD
  icases Ham with ⟨Ham, Hw⟩
  iapply (st_load_am c (rest 8) (amAll m ρ) _) $$ [Ham]
  · iexact Ham
  iintro Ham
  ihave Ham := Hw $$ Ham
  icases Ham with ⟨HA, HRD⟩
  iapply (st_load_out c fullShare (acc m ρ c 7) _) $$ [Hout]
  · iexact Hout
  iintro Hout
  iapply (st_load_out c fullShare (acc m ρ c 7) _) $$ [Hout]
  · iexact Hout
  iintro Hout
  iapply (st_store_out c (acc m ρ c 7) (outAt m ρ c) _) $$ [Hout]
  · iexact Hout
  iintro Hout
  iapply (st_sendwait m ρ c 1 (by decide) (by decide) _ _ _ (send_sem c 0)) $$ [HSW HSD HO]
  · isplitr; · iexact HC
    isplitr; · iexact Hlev
    isplitl [HSW]; · iexact HSW
    isplitl [HSD]; · iexact HSD
    iexact HO
  iintro ⟨HSW, HSD, HO⟩
  iapply (runs_ret c)
  iapply Hk
  isplitl [HRP]; · iexact HRP
  isplitl [HRD]; · iexact HRD
  isplitl [HA]; · iexact HA
  isplitl [Hout]; · iexact Hout
  isplitl [HSW]; · iexact HSW
  isplitl [HSD]; · iexact HSD
  iexact HO

/-- The other waits for the copies of `x` to have left. -/
theorem part32_run  {Q} :
    iprop(Ctx m ρ ∗ SendW c 2 ∗ SendD m ρ c 2 ∗ OW c 0 ∗ iprop(iprop(SendW c 8 ∗ SendD m ρ c 8 ∗ OW c 0) -∗ Q ⟨⟩))
      ⊢ runs c (k0_part32 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c) Q := by
  rw [k0_part32_eq_skeleton]
  unfold k0_part32_skel Ctx
  simp only [semSignalWord, semWaitWord, Prog.lift, Prog.bind_op, Prog.bind_ret, Prog.pure_eq_ret, wp_deviceId]
  iintro ⟨⟨#HC, #Hlev⟩, HSW, HSD, HO, Hk⟩
  iapply (st_sendwait m ρ c 2 (by decide) (by decide) _ _ _ (send_sem c 1)) $$ [HSW HSD HO]
  · isplitr; · iexact HC
    isplitr; · iexact Hlev
    isplitl [HSW]; · iexact HSW
    isplitl [HSD]; · iexact HSD
    iexact HO
  iintro ⟨HSW, HSD, HO⟩
  iapply (st_sendwait m ρ c 3 (by decide) (by decide) _ _ _ (send_sem c 2)) $$ [HSW HSD HO]
  · isplitr; · iexact HC
    isplitr; · iexact Hlev
    isplitl [HSW]; · iexact HSW
    isplitl [HSD]; · iexact HSD
    iexact HO
  iintro ⟨HSW, HSD, HO⟩
  iapply (st_sendwait m ρ c 4 (by decide) (by decide) _ _ _ (send_sem c 3)) $$ [HSW HSD HO]
  · isplitr; · iexact HC
    isplitr; · iexact Hlev
    isplitl [HSW]; · iexact HSW
    isplitl [HSD]; · iexact HSD
    iexact HO
  iintro ⟨HSW, HSD, HO⟩
  iapply (st_sendwait m ρ c 5 (by decide) (by decide) _ _ _ (send_sem c 4)) $$ [HSW HSD HO]
  · isplitr; · iexact HC
    isplitr; · iexact Hlev
    isplitl [HSW]; · iexact HSW
    isplitl [HSD]; · iexact HSD
    iexact HO
  iintro ⟨HSW, HSD, HO⟩
  iapply (st_sendwait m ρ c 6 (by decide) (by decide) _ _ _ (send_sem c 5)) $$ [HSW HSD HO]
  · isplitr; · iexact HC
    isplitr; · iexact Hlev
    isplitl [HSW]; · iexact HSW
    isplitl [HSD]; · iexact HSD
    iexact HO
  iintro ⟨HSW, HSD, HO⟩
  iapply (st_sendwait m ρ c 7 (by decide) (by decide) _ _ _ (send_sem c 6)) $$ [HSW HSD HO]
  · isplitr; · iexact HC
    isplitr; · iexact Hlev
    isplitl [HSW]; · iexact HSW
    isplitl [HSD]; · iexact HSD
    iexact HO
  iintro ⟨HSW, HSD, HO⟩
  iapply (runs_ret c)
  iapply Hk
  isplitl [HSW]; · iexact HSW
  isplitl [HSD]; · iexact HSD
  iexact HO

/-- The waits for the copies of the maximum to have left, but two. -/
theorem part33_run  {Q} :
    iprop(Ctx m ρ ∗ ASendW c 1 ∗ ASendD m ρ c 1 ∗ OW c 0 ∗ iprop(iprop(ASendW c 6 ∗ ASendD m ρ c 6 ∗ OW c 0) -∗ Q ⟨⟩))
      ⊢ runs c (k0_part33 xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8 c) Q := by
  rw [k0_part33_eq_skeleton]
  unfold k0_part33_skel Ctx
  simp only [semSignalWord, semWaitWord, Prog.lift, Prog.bind_op, Prog.bind_ret, Prog.pure_eq_ret, wp_deviceId]
  iintro ⟨⟨#HC, #Hlev⟩, HAW, HAD, HO, Hk⟩
  iapply (st_asendwait m ρ c 1 (by decide) (by decide) _ _ _ (asend_sem c 0)) $$ [HAW HAD HO]
  · isplitr; · iexact HC
    isplitr; · iexact Hlev
    isplitl [HAW]; · iexact HAW
    isplitl [HAD]; · iexact HAD
    iexact HO
  iintro ⟨HAW, HAD, HO⟩
  iapply (st_asendwait m ρ c 2 (by decide) (by decide) _ _ _ (asend_sem c 1)) $$ [HAW HAD HO]
  · isplitr; · iexact HC
    isplitr; · iexact Hlev
    isplitl [HAW]; · iexact HAW
    isplitl [HAD]; · iexact HAD
    iexact HO
  iintro ⟨HAW, HAD, HO⟩
  iapply (st_asendwait m ρ c 3 (by decide) (by decide) _ _ _ (asend_sem c 2)) $$ [HAW HAD HO]
  · isplitr; · iexact HC
    isplitr; · iexact Hlev
    isplitl [HAW]; · iexact HAW
    isplitl [HAD]; · iexact HAD
    iexact HO
  iintro ⟨HAW, HAD, HO⟩
  iapply (st_asendwait m ρ c 4 (by decide) (by decide) _ _ _ (asend_sem c 3)) $$ [HAW HAD HO]
  · isplitr; · iexact HC
    isplitr; · iexact Hlev
    isplitl [HAW]; · iexact HAW
    isplitl [HAD]; · iexact HAD
    iexact HO
  iintro ⟨HAW, HAD, HO⟩
  iapply (st_asendwait m ρ c 5 (by decide) (by decide) _ _ _ (asend_sem c 4)) $$ [HAW HAD HO]
  · isplitr; · iexact HC
    isplitr; · iexact Hlev
    isplitl [HAW]; · iexact HAW
    isplitl [HAD]; · iexact HAD
    iexact HO
  iintro ⟨HAW, HAD, HO⟩
  iapply (runs_ret c)
  iapply Hk
  isplitl [HAW]; · iexact HAW
  isplitl [HAD]; · iexact HAD
  iexact HO

end Parts

end Cert.KProof
-- ==== Proof.Body.lean ====
/-
# The body

The parts one after the other.
-/
module

public import proofs.«01_k».proof.Proof.Parts3

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Body
variable (c : Dev nD)

/-- A program and what follows it. -/
theorem runs_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : runs c p (fun a => runs c (k a) Q) ⊢ runs c (p >>= k) Q :=
  Entails.of_eq (wp_bind ..).symm

/-- The positions of the semaphores that the copies of blocks of `x` credit on the sender, -/
def SendAt : sProp 𝕄 := bigSep (Finset.Ico 1 8) fun k => atPos ER (sendCell c (peer c k)) 0 ∅ 0
/-- and the copies of the maximum. -/
def ASendAt : sProp 𝕄 := bigSep (Finset.Ico 1 8) fun k => atPos ER (asendCell c (peer c k)) 0 ∅ 0

theorem sendW_intro : (iprop(SentX c 8 ∗ SendAt c) : sProp 𝕄) ⊢ SendW c 1 := by
  exact bigSep_merge _ (fun _ => Entails.refl _)
theorem asendW_intro : (iprop(SentA c 8 ∗ ASendAt c) : sProp 𝕄) ⊢ ASendW c 1 := by
  exact bigSep_merge _ (fun _ => Entails.refl _)

omit [FloatOps F] [Named F] in
theorem none_yet (Φ : ℕ → sProp (MT nD τ sig Unit (Elt F) ℕ UU ℕ)) (n : ℕ) : (emp : sProp 𝕄) ⊢ bigSep (Finset.Ico n n) Φ := by
  rw [Finset.Ico_self, bigSep_empty]; exact Entails.refl _
omit [FloatOps F] [Named F] in
theorem none_waited (sm : ℕ → DmaSem sig) (Φ : ℕ → sProp (MT nD τ sig Unit (Elt F) ℕ UU ℕ)) : (emp : sProp 𝕄) ⊢ WaitD c sm Φ 1 := none_yet _ 1

/-- What the body starts from, besides the invariants: its signals, credit, positions, tokens and buffers. -/
def BodyPre (f0 : (cc0_scratch0 : Ref sig .tc).ty.Contents (Elt F)) (f1 : (cc0_stg1_0 : Ref sig .tc).ty.Contents (Elt F)) : sProp 𝕄 :=
  iprop(Sig c 1 ∗ cred (tallyAt (barCell c) () 7) ∗ atPos ER (barCell c) 0 ∅ 0 ∗ OW c (dX c 1 + dA c 1 + dB c 1) ∗ (((c : Thread nD τ).loc cc0_stg0_0) ↦{fullShare} xstg m ρ c) ∗ (((c : Thread nD τ).loc cc0_scratch0) ↦{fullShare} f0) ∗ (((c : Thread nD τ).loc cc0_stg1_0) ↦{fullShare} f1) ∗ SendTok c 1 ∗ WP m c 0 ∗ WFree c 0 0 ∗ WFree c 1 0 ∗ RecvP c 1 ∗ free c (amV c) ∗ ASendP c 1 ∗ ARecvP c 1 ∗ SendAt c ∗ ASendAt c)
/-- What it ends with. -/
def BodyPost : sProp 𝕄 :=
  iprop(atPos ER (barCell c) 1 ∅ 0 ∗ OW c 0 ∗ (((c : Thread nD τ).loc cc0_stg0_0) ↦{fullShare} xstg m ρ c) ∗ (((c : Thread nD τ).loc cc0_stg1_0) ↦{fullShare} outAt m ρ c) ∗ XOwn m ρ c ∗ SendD m ρ c 8 ∗ RecvD m ρ c 8 ∗ WFull m c 0 4 6 ∗ WFull m c 1 4 7 ∗ WOut m c 8 ∗ OwnA m ρ c 8 ∗ owns (c : Thread nD τ) (amV c) (lent 0) (am m ρ c) ∗ ASendD m ρ c 8 ∗ ARecvD m ρ c 8)

set_option maxHeartbeats 1000000 in
/-- The body, part by part. -/
theorem body_run (f0 : (cc0_scratch0 : Ref sig .tc).ty.Contents (Elt F)) (f1 : (cc0_stg1_0 : Ref sig .tc).ty.Contents (Elt F)) {Q} :
    iprop(Ctx m ρ ∗ BodyPre m ρ c f0 f1 ∗ (BodyPost m ρ c -∗ Q ⟨⟩))
      ⊢ runs c (cc0_body xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8) Q := by
  rw [cc0_body_eq_skeleton]
  unfold cc0_body_skel BodyPre
  iintro ⟨#HC, ⟨HSig, Hcr, Hat, HO, Hx, Hxl, Hout, HTk, HW, Hb0, Hb1, HR, Hfr, HPA, HRP, HPS, HPAS⟩, Hk⟩
  ihave HSX := (show (emp : sProp 𝕄) ⊢ SentX c 1 from none_yet _ 1) $$ []
  · iempintro
  ihave HWO := (show (emp : sProp 𝕄) ⊢ WOut m c 0 from none_yet _ 0) $$ []
  · iempintro
  ihave HRD := (show (emp : sProp 𝕄) ⊢ RecvD m ρ c 1 from none_waited c _ _) $$ []
  · iempintro
  ihave HSA := (show (emp : sProp 𝕄) ⊢ SentA c 1 from none_yet _ 1) $$ []
  · iempintro
  ihave HRDA := (show (emp : sProp 𝕄) ⊢ ARecvD m ρ c 1 from none_waited c _ _) $$ []
  · iempintro
  ihave HSD := (show (emp : sProp 𝕄) ⊢ SendD m ρ c 1 from none_waited c _ _) $$ []
  · iempintro
  ihave HAD := (show (emp : sProp 𝕄) ⊢ ASendD m ρ c 1 from none_waited c _ _) $$ []
  · iempintro
  iapply (runs_bind c)
  iapply (part1_run m ρ c )
  isplitr; · iexact HC
  isplitl [HSig]; · iexact HSig
  isplitl [HO]; · iexact HO
  iintro %u0 %u1 %u2 %u3 ⟨HSig, HO⟩
  try dsimp only
  iapply (runs_bind c)
  iapply (part2_run m ρ c _ _ _ _)
  isplitr; · iexact HC
  isplitl [HSig]; · iexact HSig
  isplitl [HO]; · iexact HO
  iintro %u0 %u1 %u2 ⟨HSig, HO⟩
  try dsimp only
  iapply (runs_bind c)
  iapply (part3_run m ρ c _ _ _ _)
  isplitr; · iexact HC
  isplitl [HSig]; · iexact HSig
  isplitl [Hcr]; · iexact Hcr
  isplitl [Hat]; · iexact Hat
  isplitl [HO]; · iexact HO
  iintro ⟨⟨HDX, HDA⟩, Hat, HO⟩
  try dsimp only
  iapply (runs_bind c)
  iapply (part4_run m ρ c f0 _)
  isplitr; · iexact HC
  isplitl [Hx]; · iexact Hx
  isplitl [Hxl]; · iexact Hxl
  isplitl [HDX]; · iexact HDX
  isplitl [HSX]; · iexact HSX
  isplitl [HTk]; · iexact HTk
  isplitl [HO]; · iexact HO
  iintro %u0 %u1 %u2 ⟨Hx, Hown, HPX, HDX, HSX, HO⟩
  try dsimp only
  iapply (runs_bind c)
  iapply (part5_run m ρ c _ _ _ _)
  isplitr; · iexact HC
  isplitl [HPX]; · iexact HPX
  isplitl [HDX]; · iexact HDX
  isplitl [HSX]; · iexact HSX
  isplitl [HO]; · iexact HO
  iintro %u0 %u1 %u2 %u3 ⟨HPX, HDX, HSX, HO⟩
  try dsimp only
  iapply (runs_bind c)
  iapply (part6_run m ρ c _ _ _ _ _)
  isplitr; · iexact HC
  isplitl [HPX]; · iexact HPX
  isplitl [HDX]; · iexact HDX
  isplitl [HSX]; · iexact HSX
  isplitl [HO]; · iexact HO
  iintro ⟨HPX, HDX, HSX, HO⟩
  try dsimp only
  iapply (runs_bind c)
  iapply (part7_run m ρ c _)
  isplitr; · iexact HC
  isplitl [HPX]; · iexact HPX
  isplitl [HDX]; · iexact HDX
  isplitl [HSX]; · iexact HSX
  isplitl [HO]; · iexact HO
  iintro %u0 %u1 ⟨HPX, HDX, HSX, HO⟩
  try dsimp only
  iapply (runs_bind c)
  iapply (part8_run m ρ c _ _ _)
  isplitr; · iexact HC
  isplitl [HPX]; · iexact HPX
  isplitl [HDX]; · iexact HDX
  isplitl [HSX]; · iexact HSX
  isplitl [HO]; · iexact HO
  isplitl [HW]; · iexact HW
  isplitl [Hb0]; · iexact Hb0
  iintro %u0 %u1 %u2 %u3 ⟨HPX, HDX, HSX, HO, HW, Hb0⟩
  try dsimp only
  iapply (runs_bind c)
  iapply (part9_run m ρ c _ _ _ _ _)
  isplitr; · iexact HC
  isplitl [Hb1]; · iexact Hb1
  isplitl [Hb0]; · iexact Hb0
  isplitl [HW]; · iexact HW
  isplitl [HWO]; · iexact HWO
  isplitl [HO]; · iexact HO
  isplitl [Hown]; · iexact Hown
  iintro ⟨Hb1, Hb0, HW, HWO, HO, Hown⟩
  try dsimp only
  iapply (runs_bind c)
  iapply (part10_run m ρ c f1 _)
  isplitr; · iexact HC
  isplitl [Hout]; · iexact Hout
  isplitl [Hb0]; · iexact Hb0
  isplitl [HW]; · iexact HW
  iintro %u0 %u1 %u2 ⟨Hout, Hb0, HW⟩
  try dsimp only
  iapply (runs_bind c)
  iapply (part11_run m ρ c _ _ _)
  isplitr; · iexact HC
  isplitl [Hb1]; · iexact Hb1
  isplitl [HWO]; · iexact HWO
  isplitl [HO]; · iexact HO
  isplitl [HR]; · iexact HR
  isplitl [HRD]; · iexact HRD
  isplitl [Hout]; · iexact Hout
  iintro ⟨Hb1, HWO, HO, HR, HRD, Hout⟩
  try dsimp only
  iapply (runs_bind c)
  iapply (part12_run m ρ c _)
  isplitr; · iexact HC
  isplitl [Hb1]; · iexact Hb1
  isplitl [HW]; · iexact HW
  iintro %u0 %u1 %u2 %u3 %u4 ⟨Hb1, HW⟩
  try dsimp only
  iapply (runs_bind c)
  iapply (part13_run m ρ c _ _ _ _ _ _)
  isplitr; · iexact HC
  isplitl [Hb0]; · iexact Hb0
  isplitl [HWO]; · iexact HWO
  isplitl [HO]; · iexact HO
  isplitl [HR]; · iexact HR
  isplitl [HRD]; · iexact HRD
  isplitl [Hout]; · iexact Hout
  iintro %u0 %u1 %u2 ⟨Hb0, HWO, HO, HR, HRD, Hout⟩
  try dsimp only
  iapply (runs_bind c)
  iapply (part14_run m ρ c _ _ _ _)
  isplitr; · iexact HC
  isplitl [Hb0]; · iexact Hb0
  isplitl [HW]; · iexact HW
  iintro %u0 %u1 %u2 %u3 %u4 ⟨Hb0, HW⟩
  try dsimp only
  iapply (runs_bind c)
  iapply (part15_run m ρ c _ _ _ _ _ _)
  isplitr; · iexact HC
  isplitl [Hb1]; · iexact Hb1
  isplitl [HWO]; · iexact HWO
  isplitl [HO]; · iexact HO
  isplitl [HR]; · iexact HR
  isplitl [HRD]; · iexact HRD
  isplitl [Hout]; · iexact Hout
  iintro %u0 %u1 ⟨Hb1, HWO, HO, HR, HRD, Hout⟩
  try dsimp only
  iapply (runs_bind c)
  iapply (part16_run m ρ c _ _ _)
  isplitr; · iexact HC
  isplitl [Hb1]; · iexact Hb1
  isplitl [HW]; · iexact HW
  iintro %u0 %u1 %u2 ⟨Hb1, HW⟩
  try dsimp only
  iapply (runs_bind c)
  iapply (part17_run m ρ c _ _ _ _)
  isplitr; · iexact HC
  isplitl [Hb0]; · iexact Hb0
  isplitl [HWO]; · iexact HWO
  isplitl [HO]; · iexact HO
  isplitl [HR]; · iexact HR
  isplitl [HRD]; · iexact HRD
  isplitl [Hout]; · iexact Hout
  iintro %u0 %u1 %u2 %u3 ⟨Hb0, HWO, HO, HR, HRD, Hout⟩
  try dsimp only
  iapply (runs_bind c)
  iapply (part18_run m ρ c _ _ _ _ _)
  isplitr; · iexact HC
  isplitl [Hb0]; · iexact Hb0
  isplitl [HW]; · iexact HW
  iintro %u0 ⟨Hb0, HW⟩
  try dsimp only
  iapply (runs_bind c)
  iapply (part19_run m ρ c _ _)
  isplitr; · iexact HC
  isplitl [Hb1]; · iexact Hb1
  isplitl [HWO]; · iexact HWO
  isplitl [HO]; · iexact HO
  isplitl [HR]; · iexact HR
  isplitl [HRD]; · iexact HRD
  isplitl [Hout]; · iexact Hout
  iintro %u0 %u1 %u2 ⟨Hb1, HWO, HO, HR, HRD, Hout⟩
  try dsimp only
  iapply (runs_bind c)
  iapply (part20_run m ρ c _ _ _ _)
  isplitr; · iexact HC
  isplitl [Hb1]; · iexact Hb1
  isplitl [HW]; · iexact HW
  iintro %u0 ⟨Hb1, HW⟩
  try dsimp only
  iapply (runs_bind c)
  iapply (part21_run m ρ c _ _)
  isplitr; · iexact HC
  isplitl [Hb0]; · iexact Hb0
  isplitl [HWO]; · iexact HWO
  isplitl [HO]; · iexact HO
  isplitl [HR]; · iexact HR
  isplitl [HRD]; · iexact HRD
  isplitl [Hout]; · iexact Hout
  iintro %u0 %u1 ⟨Hb0, HWO, HO, HR, HRD, Hout⟩
  try dsimp only
  iapply (runs_bind c)
  iapply (part22_run m ρ c _ _)
  isplitr; · iexact HC
  isplitl [Hb1]; · iexact Hb1
  isplitl [HWO]; · iexact HWO
  isplitl [HO]; · iexact HO
  isplitl [HR]; · iexact HR
  isplitl [HRD]; · iexact HRD
  isplitl [Hout]; · iexact Hout
  iintro ⟨Hb1, HWO, HO, HR, HRD, Hout⟩
  try dsimp only
  iapply (runs_bind c)
  iapply (part23_run m ρ c _)
  isplitr; · iexact HC
  isplitl [Hout]; · iexact Hout
  isplitl [Hfr]; · iexact Hfr
  isplitl [HPA]; · iexact HPA
  isplitl [HDA]; · iexact HDA
  isplitl [HSA]; · iexact HSA
  isplitl [HO]; · iexact HO
  iintro %u0 ⟨Hout, Hl0, HPA, HDA, HA, HSA, HO⟩
  try dsimp only
  iapply (runs_bind c)
  iapply (part24_run m ρ c _ _)
  isplitr; · iexact HC
  isplitl [HPA]; · iexact HPA
  isplitl [HDA]; · iexact HDA
  isplitl [HA]; · iexact HA
  isplitl [HSA]; · iexact HSA
  isplitl [HO]; · iexact HO
  iintro ⟨HPA, HDA, HA, HSA, HO⟩
  try dsimp only
  iapply (runs_bind c)
  iapply (part25_run m ρ c _)
  isplitr; · iexact HC
  isplitl [HPA]; · iexact HPA
  isplitl [HDA]; · iexact HDA
  isplitl [HA]; · iexact HA
  isplitl [HSA]; · iexact HSA
  isplitl [HO]; · iexact HO
  iintro %u0 %u1 %u2 ⟨HPA, HDA, HA, HSA, HO⟩
  try dsimp only
  iapply (runs_bind c)
  iapply (part26_run m ρ c _ _ _ _)
  isplitr; · iexact HC
  isplitl [HPA]; · iexact HPA
  isplitl [HDA]; · iexact HDA
  isplitl [HA]; · iexact HA
  isplitl [HSA]; · iexact HSA
  isplitl [HO]; · iexact HO
  iintro %u0 %u1 ⟨HPA, HDA, HA, HSA, HO⟩
  try dsimp only
  iapply (runs_bind c)
  iapply (part27_run m ρ c _ _ _)
  isplitr; · iexact HC
  isplitl [HPA]; · iexact HPA
  isplitl [HDA]; · iexact HDA
  isplitl [HA]; · iexact HA
  isplitl [HSA]; · iexact HSA
  isplitl [HO]; · iexact HO
  iintro ⟨HPA, HDA, HA, HSA, HO⟩
  try dsimp only
  iapply (runs_bind c)
  iapply (part28_run m ρ c _)
  isplitr; · iexact HC
  isplitl [HRP]; · iexact HRP
  isplitl [HRDA]; · iexact HRDA
  isplitl [HO]; · iexact HO
  iintro ⟨HRP, HRDA, HO⟩
  try dsimp only
  iapply (runs_bind c)
  iapply (part29_run m ρ c _)
  isplitr; · iexact HC
  isplitl [HRP]; · iexact HRP
  isplitl [HRDA]; · iexact HRDA
  isplitl [HO]; · iexact HO
  iintro %u0 ⟨HRP, HRDA, HO⟩
  try dsimp only
  iapply (runs_bind c)
  iapply (part30_run m ρ c _ _)
  isplitr; · iexact HC
  isplitl [HRP]; · iexact HRP
  isplitl [HRDA]; · iexact HRDA
  isplitl [HO]; · iexact HO
  iintro %u0 %u1 %u2 %u3 %u4 ⟨HRP, HRDA, HO⟩
  try dsimp only
  ihave HSW := (sendW_intro c) $$ [HSX HPS]
  · isplitl [HSX] <;> iassumption
  ihave HAW := (asendW_intro c) $$ [HSA HPAS]
  · isplitl [HSA] <;> iassumption
  iapply (runs_bind c)
  iapply (part31_run m ρ c _ _ _ _ _)
  isplitr; · iexact HC
  isplitl [HRP]; · iexact HRP
  isplitl [HRDA]; · iexact HRDA
  isplitl [HA]; · iexact HA
  isplitl [Hout]; · iexact Hout
  isplitl [HSW]; · iexact HSW
  isplitl [HSD]; · iexact HSD
  isplitl [HO]; · iexact HO
  iintro ⟨HRP, HRDA, HA, Hout, HSW, HSD, HO⟩
  try dsimp only
  iapply (runs_bind c)
  iapply (part32_run m ρ c )
  isplitr; · iexact HC
  isplitl [HSW]; · iexact HSW
  isplitl [HSD]; · iexact HSD
  isplitl [HO]; · iexact HO
  iintro ⟨HSW, HSD, HO⟩
  try dsimp only
  iapply (runs_bind c)
  iapply (part33_run m ρ c )
  isplitr; · iexact HC
  isplitl [HAW]; · iexact HAW
  isplitl [HAD]; · iexact HAD
  isplitl [HO]; · iexact HO
  iintro ⟨HAW, HAD, HO⟩
  simp only [Prog.lift, Prog.bind_op, Prog.bind_ret, Prog.pure_eq_ret]
  iapply (st_asendwait m ρ c 6 (by decide) (by decide) _ _ _ (asend_sem c 5)) $$ [HAW HAD HO]
  · isplitr; · unfold Ctx; icases HC with ⟨HC1, HC2⟩; iexact HC1
    isplitr; · unfold Ctx; icases HC with ⟨HC1, HC2⟩; iexact HC2
    isplitl [HAW]; · iexact HAW
    isplitl [HAD]; · iexact HAD
    iexact HO
  iintro ⟨HAW, HAD, HO⟩
  iapply (st_asendwait m ρ c 7 (by decide) (by decide) _ _ _ (asend_sem c 6)) $$ [HAW HAD HO]
  · isplitr; · unfold Ctx; icases HC with ⟨HC1, HC2⟩; iexact HC1
    isplitr; · unfold Ctx; icases HC with ⟨HC1, HC2⟩; iexact HC2
    isplitl [HAW]; · iexact HAW
    isplitl [HAD]; · iexact HAD
    iexact HO
  iintro ⟨HAW, HAD, HO⟩
  iapply (runs_ret c)
  iapply Hk
  unfold BodyPost
  isplitl [Hat]; · iexact Hat
  isplitl [HO]; · iexact HO
  isplitl [Hx]; · iexact Hx
  isplitl [Hout]; · iexact Hout
  isplitl [Hown]; · iexact Hown
  isplitl [HSD]; · iexact HSD
  isplitl [HRD]; · iexact HRD
  isplitl [Hb0]; · iexact Hb0
  isplitl [Hb1]; · iexact Hb1
  isplitl [HWO]; · iexact HWO
  isplitl [HA]; · iexact HA
  isplitl [Hl0]; · iexact Hl0
  isplitl [HAD]; · iexact HAD
  iexact HRDA

end Body

end Cert.KProof
-- ==== Proof.Ends.lean ====
/-
# A device from start to end

The positions of a device's semaphores taken family by family, how they close after the body, and the body from what
the launch gives a device to what it hands back.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The thirty-five semaphores by family -/

omit [FloatOps F] [Named F] in
theorem bigSep_apart {I : Type} [DecidableEq I] {s t : Finset I} (h : Disjoint s t) (Φ : I → sProp (MT nD τ sig Unit (Elt F) ℕ UU ℕ)) :
    bigSep (s ∪ t) Φ = iprop(bigSep s Φ ∗ bigSep t Φ) := Idealize.SL.BI.bigSep_union h

theorem ix_cover : (Finset.univ : Finset (Fin 35)) = {0} ∪ (Finset.univ.image ixW ∪ (Finset.univ.image ixS ∪ (Finset.univ.image ixR ∪
    (Finset.univ.image ixAS ∪ Finset.univ.image ixAR)))) := by decide +kernel
theorem ix_d1 : Disjoint ({0} : Finset (Fin 35)) (Finset.univ.image ixW ∪ (Finset.univ.image ixS ∪ (Finset.univ.image ixR ∪
    (Finset.univ.image ixAS ∪ Finset.univ.image ixAR)))) := by decide +kernel
theorem ix_d2 : Disjoint (Finset.univ.image ixW) (Finset.univ.image ixS ∪ (Finset.univ.image ixR ∪
    (Finset.univ.image ixAS ∪ Finset.univ.image ixAR))) := by decide +kernel
theorem ix_d3 : Disjoint (Finset.univ.image ixS) (Finset.univ.image ixR ∪ (Finset.univ.image ixAS ∪ Finset.univ.image ixAR)) := by decide +kernel
theorem ix_d4 : Disjoint (Finset.univ.image ixR) (Finset.univ.image ixAS ∪ Finset.univ.image ixAR) := by decide +kernel
theorem ix_d5 : Disjoint (Finset.univ.image ixAS) (Finset.univ.image ixAR) := by decide +kernel
theorem ixW_inj : Function.Injective ixW := by decide +kernel
theorem ixS_inj : Function.Injective ixS := by decide +kernel
theorem ixR_inj : Function.Injective ixR := by decide +kernel
theorem ixAS_inj : Function.Injective ixAS := by decide +kernel
theorem ixAR_inj : Function.Injective ixAR := by decide +kernel

omit [FloatOps F] [Named F] in
/-- A family over a device's semaphores, use by use. -/
theorem by_use (Ψ : SemLoc sig → sProp (MT nD τ sig Unit (Elt F) ℕ UU ℕ)) :
    (bigSep Finset.univ fun k : Fin 35 => Ψ (csem k)) = iprop(Ψ (.reg barS) ∗ (bigSep Finset.univ fun b : Fin 2 => Ψ (.dma (wSem b)))
      ∗ (bigSep Finset.univ fun t : Dev nD => Ψ (.dma (sendSem t))) ∗ (bigSep Finset.univ fun t : Dev nD => Ψ (.dma (recvSem t)))
      ∗ (bigSep Finset.univ fun t : Dev nD => Ψ (.dma (asendSem t))) ∗ (bigSep Finset.univ fun t : Dev nD => Ψ (.dma (arecvSem t)))) := by
  rw [ix_cover, bigSep_apart ix_d1, bigSep_apart ix_d2, bigSep_apart ix_d3, bigSep_apart ix_d4, bigSep_apart ix_d5,
    bigSep_singleton, Idealize.SL.BI.bigSep_image_of_injOn ixW_inj.injOn, Idealize.SL.BI.bigSep_image_of_injOn ixS_inj.injOn, Idealize.SL.BI.bigSep_image_of_injOn ixR_inj.injOn,
    Idealize.SL.BI.bigSep_image_of_injOn ixAS_inj.injOn, Idealize.SL.BI.bigSep_image_of_injOn ixAR_inj.injOn, csem_bar]
  simp only [csem_w, csem_send, csem_recv, csem_asend, csem_arecv]

section Dev
variable (c : Dev nD)

omit [FloatOps F] [Named F] in
/-- The same, with each family over the peers taken around the ring and the device's own index apart. -/
theorem by_peer (Ψ : SemLoc sig → sProp (MT nD τ sig Unit (Elt F) ℕ UU ℕ)) :
    (bigSep Finset.univ fun k : Fin 35 => Ψ (csem k)) = iprop(Ψ (.reg barS) ∗ (Ψ (.dma (wSem 0)) ∗ Ψ (.dma (wSem 1)))
      ∗ (Ψ (.dma (sendSem c)) ∗ bigSep (Finset.Ico 1 8) fun k => Ψ (.dma (sendSem (peer c k))))
      ∗ (Ψ (.dma (recvSem c)) ∗ bigSep (Finset.Ico 1 8) fun k => Ψ (.dma (recvSem (peer c k))))
      ∗ (Ψ (.dma (asendSem c)) ∗ bigSep (Finset.Ico 1 8) fun k => Ψ (.dma (asendSem (peer c k))))
      ∗ (Ψ (.dma (arecvSem c)) ∗ bigSep (Finset.Ico 1 8) fun k => Ψ (.dma (arecvSem (peer c k))))) := by
  rw [by_use, bigSep_univ_two, around_own c (fun t => Ψ (.dma (sendSem t))), around_own c (fun t => Ψ (.dma (recvSem t))),
    around_own c (fun t => Ψ (.dma (asendSem t))), around_own c (fun t => Ψ (.dma (arecvSem t)))]

/-! ## Closing -/

/-- A semaphore of device `c` that nothing more is signalled on. -/
def Done (sm : SemLoc sig) : sProp 𝕄 :=
  iprop(∃ R, ⌜∀ r, R ≤ r → (Rd m ρ).duties ((c : Thread nD τ), sm) r = ∅⌝ ∗ atPos ER ((c : Thread nD τ), sm) R ∅ 0)

theorem done_intro (sm : SemLoc sig) (R : ℕ) (h : ∀ r, R ≤ r → dut c r (kind sm) = ∅) :
    (atPos ER ((c : Thread nD τ), sm) R ∅ 0 : sProp 𝕄) ⊢ Done m ρ c sm := by
  unfold Done
  iintro H
  iexists R
  isplitr
  · ipureintro; exact fun r hr => by rw [duties_tc]; exact h r hr
  iexact H

theorem done_bar : (atPos ER (barCell c) 1 ∅ 0 : sProp 𝕄) ⊢ Done m ρ c (.reg barS) :=
  done_intro m ρ c _ 1 fun r hr => by rw [kind_bar]; exact if_neg (by omega)
theorem done_w (b : Fin 2) : (atPos ER (wCell c b) 4 ∅ 0 : sProp 𝕄) ⊢ Done m ρ c (.dma (wSem b)) :=
  done_intro m ρ c _ 4 fun r hr => by rw [kind_w]; exact if_neg (by omega)
theorem done_send (t : Dev nD) : (atPos ER (sendCell c t) 1 ∅ 0 : sProp 𝕄) ⊢ Done m ρ c (.dma (sendSem t)) :=
  done_intro m ρ c _ 1 fun r hr => by rw [kind_send]; exact if_neg (by omega)
theorem done_recv (t : Dev nD) : (atPos ER (recvCell c t) 1 ∅ 0 : sProp 𝕄) ⊢ Done m ρ c (.dma (recvSem t)) :=
  done_intro m ρ c _ 1 fun r hr => by rw [kind_recv]; exact if_neg (by omega)
theorem done_asend (t : Dev nD) : (atPos ER (asendCell c t) 1 ∅ 0 : sProp 𝕄) ⊢ Done m ρ c (.dma (asendSem t)) :=
  done_intro m ρ c _ 1 fun r hr => by rw [kind_asend]; exact if_neg (by omega)
theorem done_arecv (t : Dev nD) : (atPos ER (arecvCell c t) 1 ∅ 0 : sProp 𝕄) ⊢ Done m ρ c (.dma (arecvSem t)) :=
  done_intro m ρ c _ 1 fun r hr => by rw [kind_arecv]; exact if_neg (by omega)
theorem done_send_own : (atPos ER (sendCell c c) 0 ∅ 0 : sProp 𝕄) ⊢ Done m ρ c (.dma (sendSem c)) :=
  done_intro m ρ c _ 0 fun r hr => by rw [kind_send]; exact if_neg (fun h => h.2 rfl)
theorem done_recv_own : (atPos ER (recvCell c c) 0 ∅ 0 : sProp 𝕄) ⊢ Done m ρ c (.dma (recvSem c)) :=
  done_intro m ρ c _ 0 fun r hr => by rw [kind_recv]; exact if_neg (fun h => h.2 rfl)
theorem done_asend_own : (atPos ER (asendCell c c) 0 ∅ 0 : sProp 𝕄) ⊢ Done m ρ c (.dma (asendSem c)) :=
  done_intro m ρ c _ 0 fun r hr => by rw [kind_asend]; exact if_neg (fun h => h.2 rfl)
theorem done_arecv_own : (atPos ER (arecvCell c c) 0 ∅ 0 : sProp 𝕄) ⊢ Done m ρ c (.dma (arecvSem c)) :=
  done_intro m ρ c _ 0 fun r hr => by rw [kind_arecv]; exact if_neg (fun h => h.2 rfl)

/-- One semaphore closes at zero. -/
theorem close_one (g : GSem nD τ sig) (sm : SemLoc sig) (h : g = ((c : Thread nD τ), sm)) :
    iprop(Cell m ρ g ∗ Done m ρ c sm) ⊢ (|={Set.univ}=> semVal g 0 : sProp 𝕄) := by
  subst h
  unfold Cell Done
  iintro ⟨⟨⟨%κ, #Hi⟩, #Hr⟩, ⟨%R, %hR, Hat⟩⟩
  iapply (Rounds.cell_close ER (Rd m ρ) (κ := κ) (Set.mem_univ κ) (fun h => h) (R := R) hR)
  isplitr; · iexact Hi
  iexact Hat

/-- The device's semaphores, all at zero. -/
def Zeros : sProp 𝕄 := bigSep Finset.univ fun k : Fin 35 => semVal (kcell (c, k)) 0

/-- They all close. -/
theorem close_all : iprop(Cells m ρ ∗ bigSep Finset.univ fun k : Fin 35 => Done m ρ c (csem k)) ⊢ (|={Set.univ}=> Zeros c : sProp 𝕄) := by
  have h1 : Cells m ρ ⊢ bigSep Finset.univ fun k : Fin 35 => Cell m ρ (kcell (c, k)) := by
    unfold Cells
    rw [bigSep_univ_prod]
    exact bigSep_elim (Finset.mem_univ c)
  have h2 : iprop((bigSep Finset.univ fun k : Fin 35 => Cell m ρ (kcell (c, k))) ∗ bigSep Finset.univ fun k : Fin 35 => Done m ρ c (csem k))
      ⊢ (|={Set.univ}=> Zeros c : sProp 𝕄) := by
    rw [← bigSep_sep']
    exact (bigSep_mono fun k _ => close_one m ρ c (kcell (c, k)) (csem k) rfl).trans (bigSep_fupd _ _)
  exact (sep_mono_left h1).trans h2

/-! ## What the launch gives a device -/

/-- Its positions; -/
def Pos : sProp 𝕄 := bigSep Finset.univ fun k : Fin 35 => atPos ER (kcell (c, k)) 0 ∅ 0
/-- the tokens of its signals, -/
def SigTok : sProp 𝕄 := bigSep (Finset.Ico 1 8) fun k => dutyTok ER (barCell (peer c k)) 0 c
/-- of its copies of blocks of `w`, -/
def WTok : sProp 𝕄 := bigSep (Finset.Ico 0 8) fun j => dutyTok ER (wCell c (half j)) (j / 2) dz
/-- and of its copies to the peers: of blocks (`SendTok`), of the maximum (`ASendP`); -/
def Toks : sProp 𝕄 := iprop(SigTok c ∗ WTok c ∗ SendTok c 1 ∗ ASendP c 1)
/-- the credit it may wait with; -/
def Creds : sProp 𝕄 := iprop(cred (tallyAt (barCell c) () 7)
  ∗ (bigSep (Finset.Ico 1 8) fun k => cred (tallyAt (recvCell c (peer c k)) () NX))
  ∗ (bigSep (Finset.Ico 1 8) fun k => cred (tallyAt (arecvCell c (peer c k)) () NA)))
/-- and `w`. -/
def Start : sProp 𝕄 := iprop(Ctx m ρ ∗ Pos c ∗ Toks c ∗ Creds c ∗ (((c : Thread nD τ).loc main_arg1) ↦{fullShare} wAt m c))
/-- What the body hands back of it. -/
def End : sProp 𝕄 := iprop(Zeros c ∗ (((c : Thread nD τ).loc main_arg1) ↦{fullShare} wAt m c))
/-- The scratch buffers, at whatever they hold. -/
def Scratch : sProp 𝕄 := iprop((∃ f, ((c : Thread nD τ).loc cc0_scratch0) ↦{fullShare} f) ∗ (∃ f, ((c : Thread nD τ).loc cc0_scratch1) ↦{fullShare} f)
  ∗ (∃ f, ((c : Thread nD τ).loc cc0_scratch2) ↦{fullShare} f) ∗ (∃ f, ((c : Thread nD τ).loc cc0_scratch3) ↦{fullShare} f))

end Dev

end Cert.KProof
-- ==== Proof.Device.lean ====
/-
# The body on a device

The body from what the launch gives a device to what it hands back, and the library's obligation for it.
-/
module

public import proofs.«01_k».proof.Proof.Ends

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

section Dev
variable (c : Dev nD)

/-- Positions of a family at round `R`. -/
def AtAll (sm : ℕ → DmaSem sig) (R : ℕ) : sProp 𝕄 := bigSep (Finset.Ico 1 8) fun k => atPos ER ((c : Thread nD τ), .dma (sm k)) R ∅ 0

theorem waited_split (sm : ℕ → DmaSem sig) (Φ : ℕ → sProp (MT nD τ sig Unit (Elt F) ℕ UU ℕ)) :
    (WaitD c sm Φ 8 : sProp 𝕄) ⊢ iprop(bigSep (Finset.Ico 1 8) Φ ∗ AtAll c sm 1) := by
  unfold WaitD AtAll
  exact bigSep_split _ fun _ => Entails.refl _
theorem wait_merge (sm : ℕ → DmaSem sig) (N : ℕ) :
    iprop((bigSep (Finset.Ico 1 8) fun k => cred (tallyAt ((c : Thread nD τ), .dma (sm k)) () N)) ∗ AtAll c sm 0) ⊢ (WaitP c sm N 1 : sProp 𝕄) := by
  unfold WaitP AtAll
  exact bigSep_merge _ fun _ => Entails.refl _

/-- The positions at launch. -/
theorem pos_deal : (Pos c : sProp 𝕄) ⊢ iprop(atPos ER (barCell c) 0 ∅ 0 ∗ (atPos ER (wCell c 0) 0 ∅ 0 ∗ atPos ER (wCell c 1) 0 ∅ 0)
    ∗ (atPos ER (sendCell c c) 0 ∅ 0 ∗ SendAt c) ∗ (atPos ER (recvCell c c) 0 ∅ 0 ∗ AtAll c (smRecv c) 0)
    ∗ (atPos ER (asendCell c c) 0 ∅ 0 ∗ ASendAt c) ∗ (atPos ER (arecvCell c c) 0 ∅ 0 ∗ AtAll c (smARecv c) 0)) :=
  Entails.of_eq (by_peer c fun sm => atPos ER ((c : Thread nD τ), sm) 0 ∅ 0)

/-- The positions at the end: everything is done. -/
theorem pos_done : iprop(atPos ER (barCell c) 1 ∅ 0 ∗ (atPos ER (wCell c 0) 4 ∅ 0 ∗ atPos ER (wCell c 1) 4 ∅ 0)
    ∗ (atPos ER (sendCell c c) 0 ∅ 0 ∗ AtAll c (smSend c) 1) ∗ (atPos ER (recvCell c c) 0 ∅ 0 ∗ AtAll c (smRecv c) 1)
    ∗ (atPos ER (asendCell c c) 0 ∅ 0 ∗ AtAll c (smASend c) 1) ∗ (atPos ER (arecvCell c c) 0 ∅ 0 ∗ AtAll c (smARecv c) 1))
    ⊢ (bigSep Finset.univ fun k : Fin 35 => Done m ρ c (csem k) : sProp 𝕄) := by
  rw [by_peer c (Done m ρ c)]
  unfold AtAll
  exact BI.sep_mono (done_bar m ρ c) (BI.sep_mono (BI.sep_mono (done_w m ρ c 0) (done_w m ρ c 1))
    (BI.sep_mono (BI.sep_mono (done_send_own m ρ c) (bigSep_mono fun k _ => done_send m ρ c (peer c k)))
      (BI.sep_mono (BI.sep_mono (done_recv_own m ρ c) (bigSep_mono fun k _ => done_recv m ρ c (peer c k)))
        (BI.sep_mono (BI.sep_mono (done_asend_own m ρ c) (bigSep_mono fun k _ => done_asend m ρ c (peer c k)))
          (BI.sep_mono (done_arecv_own m ρ c) (bigSep_mono fun k _ => done_arecv m ρ c (peer c k)))))))

/-- The signals, with the slots they hand over. -/
theorem sig_intro : iprop(SigTok c ∗ (bigSep (Finset.Ico 1 8) fun k => free c (xgV (peer c k))) ∗ bigSep (Finset.Ico 1 8) fun k => free c (amV (peer c k)))
    ⊢ (Sig c 1 : sProp 𝕄) := by
  unfold Sig SigTok
  have h := bigSep_merge (F := F) (P := fun k => barPay (peer c k) c) (Finset.Ico 1 8) (A := fun k => free c (xgV (peer c k)))
    (B := fun k => free c (amV (peer c k))) fun _ => Entails.refl _
  exact (sep_mono_right h).trans (bigSep_merge _ fun _ => Entails.refl _)
theorem wp_intro : iprop(WTok c ∗ WAll m c) ⊢ WP m c 0 := by
  unfold WTok WP
  exact bigSep_merge _ fun _ => Entails.refl _

/-- The two buffers of the windows. -/
def XPts : sProp 𝕄 := iprop(((c : Thread nD τ).loc cc0_stg0_0) ↦{fullShare} xstg m ρ c)
def OPts (f : (cc0_stg1_0 : Ref sig .tc).ty.Contents (Elt F)) : sProp 𝕄 := iprop(((c : Thread nD τ).loc cc0_stg1_0) ↦{fullShare} f)

/-- What a device's run of the body ends with. -/
def DevPost : sProp 𝕄 := iprop(End m c ∗ OW c 0 ∗ XPts m ρ c ∗ OPts c (outAt m ρ c) ∗ Scratch c)

/-- The pieces handed back, put together. -/
theorem dev_end : iprop(Ctx m ρ ∗ BodyPost m ρ c ∗ (atPos ER (sendCell c c) 0 ∅ 0 ∗ atPos ER (recvCell c c) 0 ∅ 0 ∗ atPos ER (asendCell c c) 0 ∅ 0
    ∗ atPos ER (arecvCell c c) 0 ∅ 0) ∗ free c (xgV c)) ⊢ (|={Set.univ}=> DevPost m ρ c : sProp 𝕄) := by
  unfold BodyPost
  iintro ⟨#HC, ⟨Hat, HO, Hx, Hout, Hown, HSD, HRD, Hb0, Hb1, HWO, HA, Hl0, HAD, HRDA⟩, ⟨H1, H2, H3, H4⟩, Hg⟩
  ihave HSD' := (show SendD m ρ c 8 ⊢ iprop(bigSep (Finset.Ico 1 8) (fun k => sendPay m ρ c (peer c k)) ∗ AtAll c (smSend c) 1) from waited_split c _ _) $$ HSD
  icases HSD' with ⟨HS, HSat⟩
  ihave HRD' := (show RecvD m ρ c 8 ⊢ iprop(bigSep (Finset.Ico 1 8) (fun k => recvPay m ρ c (peer c k)) ∗ AtAll c (smRecv c) 1) from waited_split c _ _) $$ HRD
  icases HRD' with ⟨HR, HRat⟩
  ihave HAD' := (show ASendD m ρ c 8 ⊢ iprop(bigSep (Finset.Ico 1 8) (fun k => owns (c : Thread nD τ) (amV c) (lent k) (am m ρ c)) ∗ AtAll c (smASend c) 1) from waited_split c _ _) $$ HAD
  icases HAD' with ⟨HAS, HASat⟩
  ihave HRDA' := (show ARecvD m ρ c 8 ⊢ iprop(bigSep (Finset.Ico 1 8) (fun k => arecvPay m ρ c (peer c k)) ∗ AtAll c (smARecv c) 1) from waited_split c _ _) $$ HRDA
  icases HRDA' with ⟨HAR, HARat⟩
  unfold WFull
  icases Hb0 with ⟨Hw0, -, Hb0⟩
  icases Hb1 with ⟨Hw1, -, Hb1⟩
  ihave HD := (pos_done m ρ c) $$ [Hat Hw0 Hw1 H1 H2 H3 H4 HSat HRat HASat HARat]
  · isplitl [Hat]; · iexact Hat
    isplitl [Hw0 Hw1]; · isplitl [Hw0] <;> iassumption
    isplitl [H1 HSat]; · isplitl [H1] <;> iassumption
    isplitl [H2 HRat]; · isplitl [H2] <;> iassumption
    isplitl [H3 HASat]; · isplitl [H3] <;> iassumption
    isplitl [H4] <;> iassumption
  imod (close_all m ρ c) $$ [HD] with HZ
  · isplitr; · unfold Ctx; icases HC with ⟨HC1, HC2⟩; iexact HC1
    iexact HD
  imodintro
  unfold DevPost End Scratch XPts OPts
  isplitl [HZ HWO]
  · isplitl [HZ]; · iexact HZ
    iapply (w_join m c); iexact HWO
  isplitl [HO]; · iexact HO
  isplitl [Hx]; · iexact Hx
  isplitl [Hout]; · iexact Hout
  isplitl [Hown HS]
  · iapply (xl_join m ρ c); unfold Rows; isplitl [Hown] <;> iassumption
  isplitl [Hg HR]
  · iapply (xg_join m ρ c); isplitl [Hg] <;> iassumption
  isplitl [Hb0 Hb1]
  · iapply (wb_join c m)
    isplitl [Hb0]; · iapply (owns_free c _ _); iexact Hb0
    iapply (owns_free c _ _); iexact Hb1
  iapply (am_join m ρ c)
  isplitl [HA Hl0 HAS]
  · iapply (own_regain m ρ c 8)
    isplitl [HA]; · iexact HA
    rw [bigSep_Ico_succ_bot (by decide : 0 < 8)]
    isplitl [Hl0] <;> iassumption
  iexact HAR

/-- The body on a device. -/
theorem device_run (f1 : (cc0_stg1_0 : Ref sig .tc).ty.Contents (Elt F)) (Q : sProp (MT nD τ sig Unit (Elt F) ℕ UU ℕ)) (h : DevPost m ρ c ⊢ Q) :
    iprop(Start m ρ c ∗ OW c (O₀ c) ∗ XPts m ρ c ∗ OPts c f1 ∗ Scratch c)
      ⊢ runs c (cc0_body xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8) (fun _ => Q) := by
  unfold Start Scratch Toks Creds XPts OPts
  iintro ⟨⟨#HC, HP, ⟨Hsig, Hw, Hs, HA⟩, ⟨Hc, HcR, HcA⟩, HW⟩, HO, Hx, Hout, ⟨%g0, Hg0⟩, ⟨%g1, Hg1⟩, ⟨%g2, Hg2⟩, ⟨%g3, Hg3⟩⟩
  ihave HP' := (pos_deal c) $$ HP
  icases HP' with ⟨Hb, ⟨Hw0, Hw1⟩, ⟨H1, HS⟩, ⟨H2, HR⟩, ⟨H3, HAS⟩, ⟨H4, HAR⟩⟩
  ihave Hxg := (xg_split c g1) $$ Hg1
  icases Hxg with ⟨Hxg, Hxgs⟩
  ihave Hwb := (wb_split c g2) $$ Hg2
  icases Hwb with ⟨Hwb0, Hwb1⟩
  ihave Ham := (am_split c g3) $$ Hg3
  icases Ham with ⟨Ham, Hams⟩
  ihave HWA := (w_split m c) $$ HW
  iapply (wp_fupd _ _ _ _ _)
  iapply (body_run m ρ c g0 f1)
  isplitr; · iexact HC
  isplitr [Hxg H1 H2 H3 H4]
  · unfold BodyPre
    isplitl [Hsig Hxgs Hams]
    · iapply (sig_intro c)
      isplitl [Hsig]; · iexact Hsig
      isplitl [Hxgs] <;> iassumption
    isplitl [Hc]; · iexact Hc
    isplitl [Hb]; · iexact Hb
    isplitl [HO]
    · rw [show dX c 1 + dA c 1 + dB c 1 = O₀ c from by unfold O₀; abel]; iexact HO
    isplitl [Hx]; · iexact Hx
    isplitl [Hg0]; · iexact Hg0
    isplitl [Hout]; · iexact Hout
    isplitl [Hs]; · iexact Hs
    isplitl [Hw HWA]
    · iapply (wp_intro m c); isplitl [Hw] <;> iassumption
    isplitl [Hw0 Hwb0]
    · unfold WFree
      ihave #HC' := (show Ctx m ρ ⊢ Cell m ρ (wCell c 0) from by
        unfold Ctx; iintro ⟨H, -⟩; iapply (cell_w m ρ c 0); iexact H) $$ HC
      unfold Cell
      icases HC' with ⟨-, Hr⟩
      isplitl [Hw0]; · iexact Hw0
      isplitr; · iexact Hr
      iexact Hwb0
    isplitl [Hw1 Hwb1]
    · unfold WFree
      ihave #HC' := (show Ctx m ρ ⊢ Cell m ρ (wCell c 1) from by
        unfold Ctx; iintro ⟨H, -⟩; iapply (cell_w m ρ c 1); iexact H) $$ HC
      unfold Cell
      icases HC' with ⟨-, Hr⟩
      isplitl [Hw1]; · iexact Hw1
      isplitr; · iexact Hr
      iexact Hwb1
    isplitl [HcR HR]
    · iapply (wait_merge c (smRecv c) NX); isplitl [HcR] <;> iassumption
    isplitl [Ham]; · iexact Ham
    isplitl [HA]; · iexact HA
    isplitl [HcA HAR]
    · iapply (wait_merge c (smARecv c) NA); isplitl [HcA] <;> iassumption
    isplitl [HS] <;> iassumption
  iintro HQ
  iapply ((dev_end m ρ c).trans (BI.fupd_mono h))
  isplitr; · iexact HC
  isplitl [HQ]; · iexact HQ
  isplitr [Hxg]
  · isplitl [H1]; · iexact H1
    isplitl [H2]; · iexact H2
    isplitl [H3] <;> iassumption
  iexact Hxg

end Dev

end Cert.KProof
-- ==== Proof.Launch.lean ====
/-
# The launch

The tokens, positions and credit of every semaphore dealt to the devices, and the run of the whole program from any
memory whose semaphores are at zero.
-/
module

public import proofs.«01_k».proof.Proof.Device
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(Start m ρ c ∗ Scratch c)
def Φ₁ (c : Dev nD) : sProp 𝕄 := iprop(End m c ∗ Scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] [Named F] in
theorem whole_pts (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost' (c : Dev nD) : sProp 𝕄 :=
  iprop(Φ₁ m c ∗ (dats m ρ 0 c).owesAt () t₀.succ ∗ stg c cc0_stg0_0 (xstg m ρ c) ∗ stg c cc0_stg1_0 (outAt m ρ c))

theorem dev_post (c : Dev nD) : DevPost m ρ c ⊢ bodyPost' m ρ c := by
  unfold DevPost bodyPost' Φ₁ OW XPts OPts Dat.owesAt Pipeline.owesWithin
  rw [show (dats m ρ 0 c).owed t₀.succ = 0 from rfl]
  iintro ⟨HE, ⟨%W, HO⟩, Hx, Hout, HS⟩
  isplitl [HE HS]; · isplitl [HE] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

theorem body_pre (c : Dev nD) : bodyPre' m ρ c ⊢ runs c (cc0_body xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8)
    (fun _ => bodyPost' m ρ c) := by
  unfold bodyPre' Φ₀ Dat.owesAt Pipeline.owesWithin
  rw [show (dats m ρ 0 c).owed t₀.castSucc = O₀ c from rfl]
  iintro ⟨⟨Hs, Hscr⟩, ⟨%W, %hW, HO⟩, ⟨%d0, %g0, %hg0, Hx⟩, ⟨%d1, %g1, %hg1, Hout⟩⟩
  have hx : g0 = xstg m ρ c := by rw [hg0]; unfold Dat.before; rw [if_pos (fetch0_0 t₀)]; rfl
  subst hx
  iapply (device_run m ρ c g1 _ (dev_post m ρ c))
  unfold OW XPts OPts
  isplitl [Hs]; · iexact Hs
  isplitl [HO]; · iexists W; iexact HO
  isplitl [Hx]; · iexact Hx
  isplitl [Hout] <;> iassumption

set_option maxRecDepth 100000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [whole_pts]
  show bodyPre' m ρ c ⊢ wp frame (wpE (defs₀ (F := F)) 𝒱₀ c none) Set.univ (cc0_body xM (Memref.isWhole_whole _) wM (Memref.isWhole_whole _) oM (Memref.isWhole_whole _) xlM (Memref.isWhole_whole _) xgM (Memref.isWhole_whole _) wbM (Memref.isWhole_whole _) amM (Memref.isWhole_whole _) cc0_scratch4 cc0_scratch5 cc0_scratch6 cc0_scratch7 cc0_scratch8)
    (fun _ => bodyPost' m ρ c)
  exact body_pre m ρ c

/-! ## The kernel's own semaphores -/

/-- The semaphores of the scratch arrays. -/
abbrev osem (k : Fin 34) : SemLoc sig := csem k.succ

theorem ownSemFacts : Pipeline.OwnSemFacts cfg0.spec osem := by decide +kernel

theorem share_eq (c : Dev nD) (w : Fin cfg0.W) : (dats m ρ 0 c).share w = fullShare := by unfold Dat.share; split <;> rfl

theorem csem_inj : Function.Injective csem := by decide +kernel
theorem kcell_injective : Function.Injective (kcell : Dev nD × Fin 35 → GSem nD τ sig) := by
  rintro ⟨c, k⟩ ⟨c', k'⟩ h
  have h1 : c = c' := congrArg (fun g : GSem nD τ sig => g.1.1) h
  subst h1
  have h2 : csem k = csem k' := congrArg Prod.snd h
  rw [csem_inj h2]
def theCells : Finset (GSem nD τ sig) := Finset.univ.map ⟨kcell, kcell_injective⟩

omit [FloatOps F] [Named F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem succ_cover : (Finset.univ : Finset (Fin 35)) = {0} ∪ Finset.univ.image (Fin.succ : Fin 34 → Fin 35) := by decide +kernel
theorem succ_apart : Disjoint ({0} : Finset (Fin 35)) (Finset.univ.image (Fin.succ : Fin 34 → Fin 35)) := by decide +kernel

omit [FloatOps F] [Named F] in
theorem zeros_eq (c : Dev nD) : (Zeros c : sProp 𝕄)
    = iprop(unscopedSems0 c ∗ Pipeline.ownSems0 (Ix := Unit) (Name := ℕ) (U := UU) (Lvl := ℕ) (Val := Elt F) (τ := τ) osem c) := by
  unfold Zeros Pipeline.ownSems0
  have h0 : kcell (c, 0) = barCell c := congrArg (fun sm => ((c : Thread nD τ), sm)) csem_bar
  rw [unscopedSems0_eq, succ_cover, bigSep_apart succ_apart, bigSep_singleton,
    Idealize.SL.BI.bigSep_image_of_injOn (Fin.succ_injective 34).injOn, h0]

/-! ## Tokens -/

/-- A device's own tokens: use, and which peer or which round. -/
def tk (x : Fin 6 × Dev nD) : SemLoc sig × ℕ × Dev nD := match x.1 with
  | 0 => (.reg barS, 0, x.2) | 1 => (.dma (wSem (half x.2.val)), x.2.val / 2, dz) | 2 => (.dma (sendSem x.2), 0, dz)
  | 3 => (.dma (recvSem x.2), 0, dz) | 4 => (.dma (asendSem x.2), 0, dz) | 5 => (.dma (arecvSem x.2), 0, dz)
theorem tk_inj : Function.Injective tk := by decide +kernel
abbrev tokOf (x : Dev nD × Fin 6 × Dev nD) : GSem nD τ sig × ℕ × Dev nD := (((x.1 : Thread nD τ), (tk x.2).1), (tk x.2).2)
theorem tokOf_injective : Function.Injective tokOf := by
  rintro ⟨c, k⟩ ⟨c', k'⟩ h
  have h1 : c = c' := congrArg (fun g : GSem nD τ sig × ℕ × Dev nD => g.1.1.1) h
  subst h1
  have h2 : tk k = tk k' := congrArg (fun g : GSem nD τ sig × ℕ × Dev nD => (g.1.2, g.2)) h
  rw [tk_inj h2]
def theToks : Finset (GSem nD τ sig × ℕ × Dev nD) := Finset.univ.map ⟨tokOf, tokOf_injective⟩

def u₀ : UU :=
  (initOf (Pipeline.cells cfgs cellOf_inj) (Pipeline.launchToks cfgs cellOf_inj), initOf theCells theToks)

/-- The tokens of device `c`'s own semaphores, by use. -/
def Minted (c : Dev nD) : sProp 𝕄 :=
  iprop((bigSep Finset.univ fun t : Dev nD => dutyTok ER (barCell c) 0 t)
    ∗ (bigSep Finset.univ fun t : Dev nD => dutyTok ER (wCell c (half t.val)) (t.val / 2) dz)
    ∗ (bigSep Finset.univ fun t : Dev nD => dutyTok ER (sendCell c t) 0 dz)
    ∗ (bigSep Finset.univ fun t : Dev nD => dutyTok ER (recvCell c t) 0 dz)
    ∗ (bigSep Finset.univ fun t : Dev nD => dutyTok ER (asendCell c t) 0 dz)
    ∗ (bigSep Finset.univ fun t : Dev nD => dutyTok ER (arecvCell c t) 0 dz))
/-- The same once each device has those it pays with. -/
def Paid (c : Dev nD) : sProp 𝕄 :=
  iprop((bigSep Finset.univ fun t : Dev nD => dutyTok ER (barCell t) 0 c)
    ∗ (bigSep Finset.univ fun t : Dev nD => dutyTok ER (wCell c (half t.val)) (t.val / 2) dz)
    ∗ (bigSep Finset.univ fun t : Dev nD => dutyTok ER (sendCell c t) 0 dz)
    ∗ (bigSep Finset.univ fun t : Dev nD => dutyTok ER (recvCell t c) 0 dz)
    ∗ (bigSep Finset.univ fun t : Dev nD => dutyTok ER (asendCell c t) 0 dz)
    ∗ (bigSep Finset.univ fun t : Dev nD => dutyTok ER (arecvCell t c) 0 dz))

omit [FloatOps F] [Named F] in
theorem bigSep_swap (Φ : Dev nD → Dev nD → sProp (MT nD τ sig Unit (Elt F) ℕ UU ℕ)) :
    (bigSep Finset.univ fun a => bigSep Finset.univ fun b => Φ a b) = bigSep Finset.univ fun b => bigSep Finset.univ fun a => Φ a b := by
  rw [← bigSep_univ_prod (fun x : Dev nD × Dev nD => Φ x.1 x.2), ← bigSep_univ_prod (fun x : Dev nD × Dev nD => Φ x.2 x.1),
    bigSep_univ_equiv (Equiv.prodComm (Dev nD) (Dev nD)) (fun x : Dev nD × Dev nD => Φ x.1 x.2)]
  rfl

omit [FloatOps F] [Named F] in
theorem minted_paid : (bigSep Finset.univ fun c : Dev nD => (Minted c : sProp 𝕄)) = bigSep Finset.univ fun c : Dev nD => Paid c := by
  unfold Minted Paid
  rw [bigSep_sep', bigSep_sep', bigSep_sep', bigSep_sep', bigSep_sep', bigSep_sep', bigSep_sep', bigSep_sep', bigSep_sep', bigSep_sep',
    bigSep_swap fun a b => dutyTok ER (barCell a) 0 b, bigSep_swap fun a b => dutyTok ER (recvCell a b) 0 dz,
    bigSep_swap fun a b => dutyTok ER (arecvCell a b) 0 dz]

/-- Those it pays with, around the ring. -/
theorem paid_toks (c : Dev nD) : (Paid c : sProp 𝕄) ⊢ Toks c := by
  have hw : (bigSep Finset.univ fun t : Dev nD => (dutyTok ER (wCell c (half t.val)) (t.val / 2) dz : sProp 𝕄)) = WTok c := by
    unfold WTok
    have h : (Finset.univ : Finset (Fin 8)).map Fin.valEmbedding = Finset.Ico 0 8 := by decide
    rw [← h, bigSep_map]
    rfl
  unfold Paid Toks
  rw [hw, around_own c (fun t => (dutyTok ER (barCell t) 0 c : sProp 𝕄)), around_own c (fun t => (dutyTok ER (sendCell c t) 0 dz : sProp 𝕄)),
    around_own c (fun t => (dutyTok ER (recvCell t c) 0 dz : sProp 𝕄)), around_own c (fun t => (dutyTok ER (asendCell c t) 0 dz : sProp 𝕄)),
    around_own c (fun t => (dutyTok ER (arecvCell t c) 0 dz : sProp 𝕄))]
  iintro ⟨⟨-, H0⟩, H1, ⟨-, H2⟩, ⟨-, H3⟩, ⟨-, H4⟩, ⟨-, H5⟩⟩
  isplitl [H0]; · unfold SigTok; iexact H0
  isplitl [H1]; · iexact H1
  isplitl [H2 H3]
  · unfold SendTok
    iapply (bigSep_merge (F := F) (Finset.Ico 1 8) (P := fun k => iprop(dutyTok ER (sendCell c (peer c k)) 0 dz ∗ dutyTok ER (recvCell (peer c k) c) 0 dz))
      (A := fun k => dutyTok ER (sendCell c (peer c k)) 0 dz) (B := fun k => dutyTok ER (recvCell (peer c k) c) 0 dz) fun _ => Entails.refl _)
    isplitl [H2] <;> iassumption
  · unfold ASendP
    iapply (bigSep_merge (F := F) (Finset.Ico 1 8) (P := fun k => iprop(dutyTok ER (asendCell c (peer c k)) 0 dz ∗ dutyTok ER (arecvCell (peer c k) c) 0 dz))
      (A := fun k => dutyTok ER (asendCell c (peer c k)) 0 dz) (B := fun k => dutyTok ER (arecvCell (peer c k) c) 0 dz) fun _ => Entails.refl _)
    isplitl [H4] <;> iassumption

/-! ## The cells' invariants -/

/-- What the launch element deals device `c`; -/
def G (c : Dev nD) : sProp 𝕄 :=
  iprop((bigSep Finset.univ fun k : Fin 35 => roundState ER (Rd m ρ) (kcell (c, k)) 0)
    ∗ (bigSep Finset.univ fun k : Fin 35 => reached ER (kcell (c, k)) 0) ∗ Pos c ∗ Minted c)
/-- what the global step makes of it. -/
def G' (c : Dev nD) : sProp 𝕄 := iprop(Cells m ρ ∗ Pos c ∗ Toks c)

theorem fund_cells : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 35 => Φ (kcell (c, k)) := by
    unfold theCells; rw [bigSep_map, bigSep_univ_prod]; rfl
  have hT : bigSep theToks (fun x => (dutyTok ER x.1 x.2.1 x.2.2 : sProp 𝕄)) = bigSep Finset.univ fun c : Dev nD => Minted c := by
    unfold theToks; rw [bigSep_map, bigSep_univ_prod]
    exact bigSep_congr fun c _ => by
      rw [bigSep_univ_prod, bigSep_univ_eq_bigSepL [0, 1, 2, 3, 4, 5] (by decide) (by decide)]; rfl
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Pos; simp only [bigSep_sep']
  isplitl [Hst']; · iexact Hst'
  isplitl [Hr']; · iexact Hr'
  isplitl [Hat'] <;> iassumption

/-- A device's invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 35 => Cell m ρ (kcell (c, k))) ∗ Pos c ∗ Minted c) := by
  unfold G
  iintro ⟨Hos, Hus, Hst, Hr, Hat, Htok⟩
  ihave Hv := (Entails.of_eq (zeros_eq (F := F) c).symm) $$ [Hos Hus]
  · isplitl [Hus] <;> iassumption
  imod (show iprop(Zeros c ∗ bigSep Finset.univ fun k : Fin 35 => roundState ER (Rd m ρ) (kcell (c, k)) 0)
      ⊢ (|={Set.univ}=> bigSep Finset.univ fun k : Fin 35 => iprop(∃ κ : ℕ, cellInv ER (Rd m ρ) κ (kcell (c, k))) : sProp 𝕄) from by
        unfold Zeros
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv Hr]
  · unfold Cell
    rw [bigSep_sep']
    isplitl [Hinv] <;> iassumption
  isplitl [Hat] <;> iassumption

/-- Every device takes the invariants of all and the tokens it pays with. -/
theorem regroup : (bigSep Finset.univ fun c : Dev nD => iprop((bigSep Finset.univ fun k : Fin 35 => Cell m ρ (kcell (c, k))) ∗ Pos c ∗ Minted c) : sProp 𝕄)
    ⊢ bigSep Finset.univ (G' m ρ) := by
  rw [bigSep_sep', bigSep_sep', minted_paid, ← bigSep_univ_prod (fun ck : Dev nD × Fin 35 => Cell m ρ (kcell ck))]
  have h : ∀ c ∈ (Finset.univ : Finset (Dev nD)), iprop(Cells m ρ ∗ iprop(Pos c ∗ Paid c)) ⊢ G' m ρ c := fun c _ => by
    unfold G'
    iintro ⟨HC, HP, HT⟩
    isplitl [HC]; · iexact HC
    isplitl [HP]; · iexact HP
    iapply (paid_toks c); iexact HT
  rw [← bigSep_sep']
  refine (sep_mono_left (BI.bigSep_of_persistent (Finset.univ : Finset (Dev nD)) (Cells m ρ))).trans ?_
  rw [← bigSep_sep']
  exact bigSep_mono h

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Cert.KProof
-- ==== Proof.Run.lean ====
/-
# The run

The credit each device starts with, and the run of the whole program: every device's arguments are unchanged, its result
is `outAt`, every semaphore is at zero.
-/
module

public import proofs.«01_k».proof.Proof.Launch
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The launch credit -/

theorem cell_eq_iff (a b : Dev nD) (s s' : SemLoc sig) : (((a : Thread nD τ), s) : GSem nD τ sig) = ((b : Thread nD τ), s') ↔ a = b ∧ s = s' :=
  ⟨fun h => ⟨congrArg (fun g : GSem nD τ sig => g.1.1) h, congrArg (fun g : GSem nD τ sig => g.2) h⟩, fun h => by rw [h.1, h.2]⟩

/-- Tallies over the peers, at one cell. -/
theorem sum_at (d c : Dev nD) (f : ℕ → SemLoc sig) (s : SemLoc sig) (n : ℕ) :
    (∑ k ∈ Finset.Ico 1 8, (tallyAt (((peer d k : Dev nD) : Thread nD τ), f k) () n : CellTallies nD τ sig Unit)) ((c : Thread nD τ), s) ()
      = ∑ k ∈ Finset.Ico 1 8, if peer d k = c ∧ f k = s then n else 0 := by
  rw [Finset.sum_apply, Finsupp.finset_sum_apply]
  refine Finset.sum_congr rfl fun k _ => ?_
  rw [tallyAt_apply]
  refine if_congr ?_ rfl rfl
  rw [cell_eq_iff]
  exact ⟨fun h => ⟨h.1.1.symm, h.1.2.symm⟩, fun h => ⟨⟨h.1.symm, h.2.symm⟩, rfl⟩⟩

theorem sum_none (d c : Dev nD) (f : ℕ → SemLoc sig) (s : SemLoc sig) (n : ℕ) (h : ∀ k, f k ≠ s) :
    (∑ k ∈ Finset.Ico 1 8, (tallyAt (((peer d k : Dev nD) : Thread nD τ), f k) () n : CellTallies nD τ sig Unit)) ((c : Thread nD τ), s) () = 0 := by
  rw [sum_at]
  exact Finset.sum_eq_zero fun k _ => if_neg fun h' => h k h'.2

theorem owe_apply (d : Dev nD) (g : GSem nD τ sig) : O₀ d g () = dB d 1 g () + dX d 1 g () + dA d 1 g () := rfl

theorem recvS_inj : ∀ a b : Dev nD, (SemLoc.dma (recvSem a) : SemLoc sig) = .dma (recvSem b) → a = b := by decide +kernel
theorem arecvS_inj : ∀ a b : Dev nD, (SemLoc.dma (arecvSem a) : SemLoc sig) = .dma (arecvSem b) → a = b := by decide +kernel
theorem recv_arecv : ∀ a b : Dev nD, (SemLoc.dma (recvSem a) : SemLoc sig) ≠ .dma (arecvSem b) := by decide +kernel
theorem count_bar : ∀ c : Dev nD, (∑ d : Dev nD, ∑ k ∈ Finset.Ico 1 8, if peer d k = c then 1 else 0) = 7 := by decide +kernel
theorem count_one : ∀ c s : Dev nD, s ≠ c → (∑ d : Dev nD, ∑ k ∈ Finset.Ico 1 8, if peer d k = c ∧ d = s then 1 else 0) = 1 := by decide +kernel

theorem owed_bar (d c : Dev nD) : O₀ d (barCell c) () = ∑ k ∈ Finset.Ico 1 8, if peer d k = c then 1 else 0 := by
  rw [owe_apply]
  unfold dB dX dA
  rw [sum_at d c (fun _ => .reg barS), sum_none d c (fun _ => .dma (recvSem d)) _ _ (fun _ h => by cases h),
    sum_none d c (fun _ => .dma (arecvSem d)) _ _ (fun _ h => by cases h), Nat.add_zero]
  exact Finset.sum_congr rfl fun k _ => if_congr (and_iff_left rfl) rfl rfl
theorem owed_recv (d c s : Dev nD) : O₀ d (recvCell c s) () = (∑ k ∈ Finset.Ico 1 8, if peer d k = c ∧ d = s then 1 else 0) * NX := by
  rw [owe_apply]
  unfold dB dX dA
  rw [sum_none d c (fun _ => .reg barS) _ _ (fun _ h => by cases h), sum_at d c (fun _ => .dma (recvSem d)),
    sum_none d c (fun _ => .dma (arecvSem d)) _ _ (fun _ h => recv_arecv _ _ h.symm), Nat.add_zero, Nat.zero_add, Finset.sum_mul]
  refine Finset.sum_congr rfl fun k _ => ?_
  rw [ite_mul, one_mul, zero_mul]
  exact if_congr ⟨fun h => ⟨h.1, recvS_inj _ _ h.2⟩, fun h => ⟨h.1, by rw [h.2]⟩⟩ rfl rfl
theorem owed_arecv (d c s : Dev nD) : O₀ d (arecvCell c s) () = (∑ k ∈ Finset.Ico 1 8, if peer d k = c ∧ d = s then 1 else 0) * NA := by
  rw [owe_apply]
  unfold dB dX dA
  rw [sum_none d c (fun _ => .reg barS) _ _ (fun _ h => by cases h), sum_at d c (fun _ => .dma (arecvSem d)),
    sum_none d c (fun _ => .dma (recvSem d)) _ _ (fun _ h => recv_arecv _ _ h), Nat.add_zero, Nat.zero_add, Finset.sum_mul]
  refine Finset.sum_congr rfl fun k _ => ?_
  rw [ite_mul, one_mul, zero_mul]
  exact if_congr ⟨fun h => ⟨h.1, arecvS_inj _ _ h.2⟩, fun h => ⟨h.1, by rw [h.2]⟩⟩ rfl rfl

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) :
    tallyOn (barCell c) (launchCredit (Pipeline.owing O₀) 0 (barCell c)) = (tallyAt (barCell c) () 7 : CellTallies nD τ sig Unit) :=
  launch_at _ _ (by rw [Finset.sum_congr rfl fun d _ => owed_bar d c, count_bar])
theorem launch_recv (c s : Dev nD) (h : s ≠ c) :
    tallyOn (recvCell c s) (launchCredit (Pipeline.owing O₀) 0 (recvCell c s)) = (tallyAt (recvCell c s) () NX : CellTallies nD τ sig Unit) :=
  launch_at _ _ (by rw [Finset.sum_congr rfl fun d _ => owed_recv d c s, ← Finset.sum_mul, count_one c s h, one_mul])
theorem launch_arecv (c s : Dev nD) (h : s ≠ c) :
    tallyOn (arecvCell c s) (launchCredit (Pipeline.owing O₀) 0 (arecvCell c s)) = (tallyAt (arecvCell c s) () NA : CellTallies nD τ sig Unit) :=
  launch_at _ _ (by rw [Finset.sum_congr rfl fun d _ => owed_arecv d c s, ← Finset.sum_mul, count_one c s h, one_mul])

theorem creds (c : Dev nD) : (Pipeline.launchCred O₀ c : sProp 𝕄) ⊢ Creds c := by
  have hp : ∀ k ∈ Finset.Ico 1 8, peer c k ≠ c := fun k hk => peer_ne' c k (Finset.mem_Ico.mp hk).1 (Finset.mem_Ico.mp hk).2
  have h1 : (Pipeline.launchCred O₀ c : sProp 𝕄)
      ⊢ bigSep Finset.univ fun k : Fin 35 => cred (tallyOn (kcell (c, k)) (launchCredit (Pipeline.owing O₀) 0 (kcell (c, k)))) := by
    unfold Pipeline.launchCred
    have h := Idealize.SL.BI.bigSep_image_of_injOn (s := Finset.univ) csem_inj.injOn
      (fun sm : SemLoc sig => (cred (tallyOn ((c : Thread nD τ), sm) (launchCredit (Pipeline.owing O₀) 0 ((c : Thread nD τ), sm))) : sProp 𝕄))
    exact (Idealize.SL.BI.bigSep_subset (Finset.subset_univ _)).trans (Entails.of_eq h)
  have h2 := Entails.of_eq (by_peer c fun sm => (cred (tallyOn ((c : Thread nD τ), sm) (launchCredit (Pipeline.owing O₀) 0 ((c : Thread nD τ), sm))) : sProp 𝕄))
  have h3 := h1.trans h2
  unfold Creds
  iintro H
  ihave H' := h3 $$ H
  icases H' with ⟨H0, -, -, ⟨-, HR⟩, -, ⟨-, HA⟩⟩
  isplitl [H0]; · rw [← launch_bar]; iexact H0
  isplitl [HR]
  · rw [← bigSep_congr fun k hk => congrArg cred (launch_recv c (peer c k) (hp k hk))]; iexact HR
  · rw [← bigSep_congr fun k hk => congrArg cred (launch_arecv c (peer c k) (hp k hk))]; iexact HA

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Start m ρ c ∗ emp) := by
  rw [Pipeline.unscopedRestP_none, unscopedRest0_eq]
  unfold Start G' Ctx
  iintro ⟨Hw, Hlev, Hcr, -, ⟨HC, HP, HT⟩⟩
  ihave Hc := (creds (F := F) c) $$ Hcr
  imodintro
  isplitl
  · isplitl [HC Hlev]; · isplitl [HC] <;> iassumption
    isplitl [HP]; · iexact HP
    isplitl [HT]; · iexact HT
    isplitl [Hc]; · iexact Hc
    iexact Hw
  · iempintro

theorem phi0_intro (c : Dev nD) :
    iprop(Start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Scratch
  iintro ⟨Hs, -, Hr⟩
  isplitl [Hs]; · iexact Hs
  iexact Hr

/-- What a device has when it leaves: the barrier semaphore at zero and `w`. -/
def Left (c : Dev nD) : sProp 𝕄 := iprop(unscopedSems0 c ∗ (((c : Thread nD τ).loc main_arg1) ↦{fullShare} wAt m c))

theorem phi1_exit (c : Dev nD) :
    (dats m ρ 0 c).Φ (Fin.last cfg0.N) ⊢ iprop(Left m c ∗ Pipeline.ownSems0 osem c ∗ Pipeline.scopedRest cfg0.spec c) := by
  rw [show (dats m ρ 0 c).Φ (Fin.last cfg0.N) = Φ₁ m c from rfl, scopedRest0_eq]
  unfold Φ₁ End Left Scratch
  rw [zeros_eq]
  iintro ⟨⟨⟨HU, HZ⟩, Hw⟩, Hr⟩
  isplitl [HU Hw]; · isplitl [HU] <;> iassumption
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t => by
    have ho : (dats m ρ 0 c).owed t = O₀ c ∨ (dats m ρ 0 c).owed t = 0 := by
      rcases t with ⟨_ | _, ht⟩
      · exact Or.inl rfl
      · exact Or.inr rfl
    refine mayWait c _ 0 _ (by fin_cases w <;> fin_cases s <;> decide +kernel) ?_
    rcases ho with h | h <;> rw [h]
    · exact above_O₀ c
    · exact above_zero 0

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = wAt m c

set_option maxRecDepth 8000 in
/-- From any memory with every semaphore at zero, every execution terminates, with the arrays as computed, `w` unchanged
    and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := Start m ρ) (Y := Left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = wAt m c)
    (hY := fun c s' => by
      unfold Left
      iintro ⟨⟨Hu, Hw⟩, -, HSI⟩
      icombine HSI Hw gives %h0
      imod (Pipeline.unscopedSems0_read (X := unscopedSems0 c) (c := c) fupd_intro s') $$ [Hu HSI] with ⟨%h1, HSI⟩
      · isplitl [Hu] <;> iassumption
      imodintro
      isplitr; · ipureintro; exact ⟨h1, Buf.eq_of_forall_mem_univ h0⟩
      iexact HSI)
    (hQ := fun _ h hs => ⟨fun c => ⟨fun w => (h c).1 w, (h c).2.2.2⟩, sem_eq_zero hs fun c => (h c).2.2.1⟩)

/-- The `x` array after the run holds what it held; -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KProof
-- ==== Proof.Frames.lean ====
/-
# The frames

Every program of the certificate terminates with its arguments unchanged and every semaphore at zero. The printed kernel
and its idealization differ in how one constant is written, so the run proved of the second, for any float values, is the
first's as well: the constant is read as the number its pattern denotes.
-/
module

public import proofs.«01_k».proof.Proof.Run
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Frames

open Idealize.ShloMosaic Idealize.ShloMosaic.TcCoe Idealize.SL.Sem

section
open Cert.KernelIdeal

/-- The idealized kernel's frame, for any float values. -/
theorem frame_any {F : FTy → Type} [FloatOps F] [Named F] (m : (ℓ : Loc nD τ sig) → Buf (Elt F) ℓ) (g : Dev nD → PrngReg) :
    θ_run (Cert.KernelIdeal.defs (F := F)) (onTc (τ := Cert.KernelIdeal.τ) (Cert.KernelIdeal.main (F := F)))
      ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono
    (fun _ h => ⟨fun c => ⟨((h.1 c).1 (0 : Fin 2)).trans (Cert.KProof.finalA_x m g c), (h.1 c).2⟩, h.2⟩)
    (Cert.KProof.run_main m g)

end

/-- `Cert.quiescent_KernelIdeal`. -/
theorem frame_kernelIdeal : Cert.quiescent_KernelIdeal := fun m g _ => frame_any m g

/-- A named constant read as the number its pattern denotes. -/
abbrev byPattern : Named Bits := ⟨fun _ _ _ b => Scalar.ofBits _ b⟩

section
attribute [local instance] byPattern

/-- Read so, the idealized kernel's body is the printed kernel's, -/
theorem defs₀_eq : Cert.Kernel.defs₀ (F := Bits) = Cert.KernelIdeal.defs₀ (F := Bits) := by
  funext κ l a
  cases κ with
  | tc => match l, a with | 0, (t, s) => rfl
  | _ => rfl

/-- and so is the table of bodies the two launches run. -/
theorem defs_eq : Cert.Kernel.defs (F := Bits) = Cert.KernelIdeal.defs (F := Bits) :=
  congrArg (Idealize.ShloMosaic.Pipeline.defs (Cert.KernelIdeal.pcfgs (F := Bits))) defs₀_eq

/-- `Cert.quiescent_Kernel`. -/
theorem frame_kernel : Cert.quiescent_Kernel := fun m g _ => by
  rw [defs_eq]
  exact frame_any (F := Bits) m g

end

/-- `Cert.quiescent_ReferenceIdeal`: it declares no semaphore. -/
theorem frame_referenceIdeal : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- `Cert.preserves_Kernel_KernelIdeal`: the table gives the constant's name its value. -/
theorem preserves_const : Cert.preserves_Kernel_KernelIdeal :=
  IdealRules.named_const.statement _ _ _ _ _ rfl

end Cert.Frames

end
-- ==== Proof.Final.lean ====
/-
# The arrays at the end

Each array has one block, itself: what a device's staging buffer of `x` holds is its part of `x`, and its result array ends
at the value `outAt` of the kernel's body.
-/
module

public import proofs.«01_k».proof.Proof.Run
public import proofs.«01_k».proof.Proof.Gen.KernelIdeal.Points
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- Both arrays' block index is zero at the one grid point. -/
theorem index_zero0 (t : Fin grid0.N) (a : Fin 2) : win0_0.index t a = 0 := by
  rcases fin_N0 t with rfl; revert a; decide +kernel
theorem index_zero1 (t : Fin grid0.N) (a : Fin 2) : win0_1.index t a = 0 := by
  rcases fin_N0 t with rfl; revert a; decide +kernel

omit [FloatOps F] [Named F] in
/-- An array's block is the array, for `x` -/
theorem read_blk0 (t : Fin grid0.N) (f : S4096x512.Idx → Elt F .f32) : (win0_0.blk t).view.read (Elt F) f = f := by
  funext j
  show f ((win0_0.rect t).emb j) = f j
  exact congrArg f (funext fun a => Fin.ext (Pipeline.Window.rect_emb_val_of_index_zero win0_0 t a (index_zero0 t a) j))

omit [FloatOps F] [Named F] in
/-- and for the result. -/
theorem read_blk1 (t : Fin grid0.N) (f : S512x2048.Idx → Elt F .f32) : (win0_1.blk t).view.read (Elt F) f = f := by
  funext j
  show f ((win0_1.rect t).emb j) = f j
  exact congrArg f (funext fun a => Fin.ext (Pipeline.Window.rect_emb_val_of_index_zero win0_1 t a (index_zero1 t a) j))

/-- Device `c`'s staging buffer holds its part of `x`. -/
theorem xstg_eq (c : Dev nD) : xstg m ρ c = m ((c : Thread nD τ).loc main_arg0) := read_blk0 _ _

theorem flushed_out (c : Dev nD) (t : Fin cfg0.N) :
    (dats m ρ 0 c).flushed 1 t = ((cfg0.win 1).blk t).view.read (Elt F) (outAt m ρ c) := by
  rcases fin_N0 t with rfl
  exact (read_blk1 t0_0 (outAt m ρ c)).symm

/-- Every element of the result is in the one block. -/
theorem cover_out (i : S512x2048.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, ← Rect.map_emb_univ, Finset.mem_map]
  exact ⟨i, Finset.mem_univ _, funext fun a => Fin.ext (Pipeline.Window.rect_emb_val_of_index_zero win0_1 t0_0 a (index_zero1 t0_0 a) i)⟩

/-- The result array after the run holds `outAt`. -/
theorem finalA_out (c : Dev nD) : finalA m ρ c (1 : Fin 2) = outAt m ρ c :=
  (dats m ρ 0 c).arrAt_eq_of_cover 1 (outAt m ρ c) (fun t _ => flushed_out m ρ c t) cover_out

end Cert.KProof
-- ==== Proof.Product.lean ====
/-
# The product

At the ideal values rounding is the identity, so what a device sends is its columns of `x` as they are, and what it has
accumulated at the end is its rows of the product of the whole arrays: the blocks of the contracted axis come in
another order on each device, and addition commutes.
-/
module

public import proofs.«01_k».proof.Proof.Final
public import Idealize.ShloMosaic.Lib.Pointwise
public import proofs.«01_k».proof.Proof.Gen.ReferenceIdeal.Run
public import Idealize.ShloMosaic.Lib.Layout

@[expose] public section

noncomputable section

namespace Cert.KProof

open Cert.KernelIdeal Cert.KernelIdeal.Gen

open Idealize.ShloMosaic
open Idealize.ShloMosaic.TcCoe
open Idealize.SL.Sem

/-! ## The body's values, element by element -/

theorem pay1_apply (x : FVec Ideal S4096x512 .f32) (j : S4096x512.Idx) : k0_pay1 (F := Ideal) x j = x j := by
  pointwise [k0_pay1]
theorem pay2_apply (x : FVec Ideal S512x512 .bf16) (w : FVec Ideal S1x512x2048 .f32) (r : Fin 512) (n : Fin 2048) :
    k0_pay2 (F := Ideal) x w (ix2 r n) = ∑ k : Fin 512, x (ix2 r k) * w (ix3 (0 : Fin 1) k n) := by
  pointwise [k0_pay2]
theorem pay3_apply (x : FVec Ideal S1x512x512 .bf16) (w : FVec Ideal S1x512x2048 .f32) (a : FVec Ideal S512x2048 .f32)
    (r : Fin 512) (n : Fin 2048) :
    k0_pay3 (F := Ideal) x w a (ix2 r n) =
      a (ix2 r n) + ∑ k : Fin 512, x (ix3 (0 : Fin 1) r k) * w (ix3 (0 : Fin 1) k n) := by
  pointwise [k0_pay3]
theorem unsqW_apply (X : S512x2048.Idx → Elt Ideal .f32) (k : Fin 512) (n : Fin 2048) :
    unsqW X (ix3 (0 : Fin 1) k n) = X (ix2 k n) := by
  pointwise [unsqW]
theorem unsqX_apply (X : S512x512.Idx → Elt Ideal .bf16) (k n : Fin 512) :
    unsqX X (ix3 (0 : Fin 1) k n) = X (ix2 k n) := by
  pointwise [unsqX]

/-! ## Rows -/

/-- Row `r` of the `t`-th block of 512 rows. -/
def row (t : Fin 8) (r : Fin 512) : Fin 4096 := ⟨512 * t.val + r.val, by have := t.isLt; have := r.isLt; omega⟩

theorem xlR_emb (t : Fin 8) (r k : Fin 512) : (xlR t).emb (ix2 r k) = ix2 (row t r) k := by
  funext a
  apply Fin.ext
  match a with
  | 0 => show 512 * t.val + 1 * r.val = 512 * t.val + r.val; omega
  | 1 => show 0 + 1 * k.val = k.val; omega

theorem wR_emb (t : Fin 8) (k : Fin 512) (n : Fin 2048) : (wR t).emb (ix2 k n) = ix2 (row t k) n := by
  funext a
  apply Fin.ext
  match a with
  | 0 => show 512 * t.val + 1 * k.val = 512 * t.val + k.val; omega
  | 1 => show 0 + 1 * n.val = n.val; omega

/-- A sum over the rows is a sum over the blocks of the sums over each. -/
theorem sum_rows (f : Fin 4096 → EReal) : ∑ k, f k = ∑ s : Fin 8, ∑ k : Fin 512, f (row s k) := by
  rw [← Fintype.sum_prod_type' (fun s k => f (row s k))]
  refine (Fintype.sum_equiv (finProdFinEquiv (m := 8) (n := 512)) _ _ fun p => congrArg f (Fin.ext ?_)).symm
  show 512 * p.1.val + p.2.val = p.2.val + 512 * p.1.val
  omega

/-- Taken from any device on, the peers are all the devices. -/
theorem sum_peers (c : Fin 8) (g : Fin 8 → EReal) : ∑ j ∈ Finset.range 8, g (peer c j) = ∑ s, g s := by
  rw [Finset.sum_range]
  exact Fintype.sum_equiv (around c) _ _ fun _ => rfl

/-! ## The product -/

variable (X : FVec Ideal Cert.ReferenceIdeal.S4096x4096 .f32) (W : FVec Ideal S4096x2048 .f32)

/-- The product of the whole arrays. -/
def prod (i : Fin 4096) (n : Fin 2048) : EReal := ∑ k : Fin 4096, X (ix2 i k) * W (ix2 k n)

/-- The part of it that the `s`-th block of the contracted axis gives. -/
def part (s : Fin 8) (i : Fin 4096) (n : Fin 2048) : EReal := ∑ k : Fin 512, X (ix2 i (row s k)) * W (ix2 (row s k) n)

theorem prod_parts (i : Fin 4096) (n : Fin 2048) : prod X W i n = ∑ s, part X W s i n := sum_rows _

variable (m : (ℓ : Loc nD τ sig) → Buf (Elt Ideal) ℓ) (ρ : Dev nD → PrngReg)

/-- The launch's arrays: each device holds its 512 columns of `X`, and all of `W`. -/
structure Held : Prop where
  x : ∀ c : Dev nD, m ((c : Thread nD τ).loc main_arg0) = Layout.block ⟨2, ![4096, 512]⟩ ⟨2, ![4096, 4096]⟩ 1 8 c X
  w : ∀ c : Dev nD, m ((c : Thread nD τ).loc main_arg1) = W

variable {X W m} (H : Held X W m)
include H

/-- What device `s` sends to `c`. -/
theorem xsent_apply (s c : Dev nD) (r k : Fin 512) : xsent m ρ s c (ix2 r k) = X (ix2 (row c r) (row s k)) := by
  show k0_pay1 (xstg m ρ s) ((xlR c).emb (ix2 r k)) = _
  rw [pay1_apply, xstg_eq, H.x, xlR_emb, Layout.block_apply]
  refine congrArg X (funext fun a => Fin.ext ?_)
  match a with
  | 0 => rfl
  | 1 => show s.val * 512 + k.val = 512 * s.val + k.val; omega

theorem wblk_apply (c s : Dev nD) (k : Fin 512) (n : Fin 2048) : wblk m c s (ix2 k n) = W (ix2 (row s k) n) := by
  show m ((c : Thread nD τ).loc main_arg1) ((wR s).emb (ix2 k n)) = _
  rw [H.w, wR_emb]

/-- After the block of the `k`-th peer the accumulator holds the sum of the parts so far. -/
theorem acc_apply (c : Dev nD) (r : Fin 512) (n : Fin 2048) : ∀ k : ℕ,
    acc m ρ c k (ix2 r n) = ∑ j ∈ Finset.range (k + 1), part X W (peer c j) (row c r) n
  | 0 => by
    rw [Finset.sum_range_one, peer_zero]
    show k0_pay2 (xsent m ρ c c) (unsqW (wblk m c c)) (ix2 r n) = _
    rw [pay2_apply]
    refine Finset.sum_congr rfl fun k _ => ?_
    rw [unsqW_apply, xsent_apply ρ H, wblk_apply H]
  | k + 1 => by
    rw [Finset.sum_range_succ, ← acc_apply c r n k]
    show k0_pay3 (unsqX (xsent m ρ (peer c (k + 1)) c)) (unsqW (wblk m c (peer c (k + 1)))) (acc m ρ c k) (ix2 r n) = _
    rw [pay3_apply]
    refine congrArg _ (Finset.sum_congr rfl fun i _ => ?_)
    rw [unsqW_apply, unsqX_apply, xsent_apply ρ H, wblk_apply H]

/-- After the last, its rows of the product. -/
theorem acc_last (c : Dev nD) (r : Fin 512) (n : Fin 2048) : acc m ρ c 7 (ix2 r n) = prod X W (row c r) n := by
  rw [acc_apply ρ H, prod_parts]
  exact sum_peers c fun s => part X W s (row c r) n

end Cert.KProof
-- ==== Proof.Largest.lean ====
/-
# The largest magnitude

A device's maximum is the largest magnitude of its rows, the largest of the eight maxima is the largest of the whole
product, and each device rounds its rows to steps of that over 127.
-/
module

public import proofs.«01_k».proof.Proof.Product

@[expose] public section

noncomputable section

namespace Cert.KProof

open Cert.KernelIdeal Cert.KernelIdeal.Gen

open Idealize.ShloMosaic
open Idealize.ShloMosaic.TcCoe
open Idealize.SL.Sem

/-! ## The largest element of an array -/

theorem bot_bits : FloatOps.ofBits (F := Ideal) .f32 0xFF800000#32 = (⊥ : EReal) := by
  show Ideal.ofBits .f32 0xFF800000#32 = ⊥
  simp [Ideal.ofBits, Ideal.ieee]

theorem bits_127 : Ideal.ofBits .f32 0x42FE0000#32 = ((127 : ℝ) : EReal) := by
  simp [Ideal.ofBits, Ideal.ieee, -EReal.coe_mul]; norm_num

/-- `g` is the largest of the `f i`, or `⊥` where there are none. -/
def Largest {ι : Type} (f : ι → EReal) (g : EReal) : Prop := ∀ b : EReal, g ≤ b ↔ ∀ i, f i ≤ b

theorem Largest.unique {ι : Type} {f : ι → EReal} {g g' : EReal} (h : Largest f g) (h' : Largest f g') : g = g' :=
  eq_of_forall_ge_iff fun b => (h b).trans (h' b).symm

/-- The elements may be named otherwise. -/
theorem Largest.reindex {ι κ : Type} {f : ι → EReal} {g : EReal} (e : κ → ι) (he : Function.Surjective e) (h : Largest f g) :
    Largest (fun k => f (e k)) g := fun b => (h b).trans he.forall

theorem largest_fold {ι : Type} (s : Finset ι) (hs : ∀ i, i ∈ s) (f : ι → EReal) : Largest f (s.fold max ⊥ f) := fun b =>
  (Finset.fold_max_le b).trans ⟨fun h i => h.2 i (hs i), fun h => ⟨bot_le, fun i _ => h i⟩⟩

/-- A kernel's maximum over all the axes, from the least element; -/
theorem largest_multiReduction {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ)
    (j : t.Idx) : Largest src (multiReduction .maximumf axes t src 0xFF800000#32 h hφ hacc j) := by
  rw [multiReduction_maximumf_eq_fold, bot_bits]
  exact largest_fold _ (fun i => Finset.mem_filter.mpr ⟨Finset.mem_univ i, funext fun b => Fin.ext (by
    have := (h.drop i b).isLt; have := (j b).isLt; have := ht b; omega)⟩) src

/-- and the reference's, into an array of no axes. -/
theorem largest_reduce {s t u : Shape} {axes : List (Fin s.rank)} (x : FVec Ideal s .f32) (init : u.Idx → EReal) (hi : ∀ i, init i = ⊥)
    (h : s.ReducesTo axes t) (hu : 0 < u.numel) (ht : ∀ b, t.size b = 1) (j : t.Idx) :
    Largest x (Host.reduce (FloatOps.maximumf (F := Ideal) (φ := .f32)) x init h hu j) := by
  rw [Host.reduce_eq_fold, hi]
  exact largest_fold _ (fun i => Finset.mem_filter.mpr ⟨Finset.mem_univ i, funext fun b => Fin.ext (by
    have := (h.drop i b).isLt; have := (j b).isLt; have := ht b; omega)⟩) x

/-! ## The body's two maxima -/

/-- The magnitude. -/
def mag (y : EReal) : EReal := max y (-y)

/-- Rounding `y` to a whole number of steps `s`, at most 127 of them either way. -/
def quant (s y : EReal) : EReal :=
  min (Ideal.ofBits .f32 0x42FE0000#32) (max (Ideal.ofBits .f32 0xC2FE0000#32) (FloatOps.roundeven (F := Ideal) (φ := .f32) (Ideal.div y s))) * s

/-- A maximum taken out as a number, -/
theorem largest_extract {s t u : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ)
    (hc : t.ShapeCasts u) (pos : Fin u.rank → ℕ) (hp : ∀ a, pos a < u.size a) :
    Largest src (extractAt pos (shapeCast u (multiReduction .maximumf axes t src 0xFF800000#32 h hφ hacc) hc) hp) :=
  largest_multiReduction src h ht hφ hacc _

/-- of an array in another shape. -/
theorem Largest.of_shapeCast {s u : Shape} {x : s.Idx → EReal} {hc : s.ShapeCasts u} {g : EReal}
    (h : Largest (shapeCast u x hc) g) : Largest x g := fun b =>
  (h b).trans (Equiv.forall_congr (Shape.reshapeEquiv hc) fun _ => Iff.rfl)

/-- A number repeated is that number, in any shape. -/
theorem shapeCast_broadcast {s u : Shape} {α : Type} (x : α) (h : s.ShapeCasts u) (j : u.Idx) :
    shapeCast u (broadcast s x) h j = x := rfl

/-- The named constant's value. -/
theorem inv127 : Named.named (F := Ideal) κ "inv127" (φ := .f32) 0x3C010204#32 = ((127⁻¹ : ℝ) : EReal) := rfl

/-- A device's maximum is the largest magnitude it has accumulated, in every element. -/
theorem pay12_largest (v : FVec Ideal S512x2048 .f32) (j : S1x8x128.Idx) :
    Largest (fun i => mag (v i)) (k0_pay12 (F := Ideal) v j) := by
  have h := (largest_extract (shapeCast S1x512x2048 (absf (shapeCast S512x2048 v shapeCasts_S512x2048_S512x2048))
    shapeCasts_S512x2048_S1x512x2048) reduces_S1x512x2048_S1 (by decide) (.inl rfl) rfl shapeCasts_S1_S1x1x1 ![0, 0, 0]
    inpos_S1x1x1_p0_0_0).of_shapeCast
  rw [shapeCast_self] at h
  have hv : k0_pay12 (F := Ideal) v j = extractAt ![0, 0, 0] (shapeCast S1x1x1 (multiReduction .maximumf [1, 2] S1
      (shapeCast S1x512x2048 (absf v) shapeCasts_S512x2048_S1x512x2048) 0xFF800000#32 reduces_S1x512x2048_S1 (.inl rfl) rfl)
      shapeCasts_S1_S1x1x1) inpos_S1x1x1_p0_0_0 := by
    simp only [k0_pay12, shapeCast_self]
    exact shapeCast_broadcast _ shapeCasts_S8x128_S1x8x128 j
  rw [hv]
  exact h

/-- A device's result: what it accumulated, in steps of the largest of the maxima over 127. -/
theorem pay13_apply (a : FVec Ideal S8x8x128 .f32) (v : FVec Ideal S512x2048 .f32) :
    ∃ g : EReal, Largest a g ∧ ∀ j, k0_pay13 (F := Ideal) a v j = quant (g * ((127⁻¹ : ℝ) : EReal)) (v j) := by
  refine ⟨_, (largest_extract (shapeCast S1x8x8x128 a shapeCasts_S8x8x128_S1x8x8x128)
    reduces_S1x8x8x128_S1 (by decide) (.inl rfl) rfl shapeCasts_S1_S1x1x1x1 ![0, 0, 0, 0] inpos_S1x1x1x1_p0_0_0_0).of_shapeCast, fun j => ?_⟩
  simp only [k0_pay13, shapeCast_self, inv127]
  simp only [mulf, minimumf, maximumf, roundeven, divf, broadcast, quant]
  generalize extractAt (s := S1x1x1x1) ![0, 0, 0, 0] _ _ = g
  rfl

/-- Dividing by 127 is multiplying by its reciprocal. -/
theorem div_127 (g : EReal) : Ideal.div g (Ideal.ofBits .f32 0x42FE0000#32) = g * ((127⁻¹ : ℝ) : EReal) := by
  rw [bits_127, Ideal.div_coe (by norm_num), one_div]

/-! ## Every device's result -/

variable {X : FVec Ideal Cert.ReferenceIdeal.S4096x4096 .f32} {W : FVec Ideal Cert.ReferenceIdeal.S4096x2048 .f32}
  {m : (ℓ : Loc nD τ sig) → Buf (Elt Ideal) ℓ} (ρ : Dev nD → PrngReg) (H : Held X W m)

/-- Every row is in a block. -/
theorem row_surj : Function.Surjective fun p : Fin 8 × Fin 512 => row p.1 p.2 := fun i =>
  ⟨(⟨i.val / 512, by have := i.isLt; omega⟩, ⟨i.val % 512, Nat.mod_lt _ (by decide)⟩), Fin.ext (by
    show 512 * (i.val / 512) + i.val % 512 = i.val; omega)⟩

include H

/-- The largest of all the maxima is the largest magnitude of the product. -/
theorem amAll_largest (g : EReal) (hg : Largest (amAll m ρ) g) : Largest (fun p : Fin 4096 × Fin 2048 => mag (prod X W p.1 p.2)) g := fun b => by
  have hA (i : S8x8x128.Idx) : Largest (fun j => mag (acc m ρ (i 0) 7 j)) (amAll m ρ i) := by
    unfold amAll amx
    exact pay12_largest (acc m ρ (i 0) 7) _
  rw [hg b]
  constructor
  · intro h p
    obtain ⟨q, hq⟩ := row_surj p.1
    have h0 := (hA (ix3 q.1 (0 : Fin 8) (0 : Fin 128)) b).mp (h (ix3 q.1 (0 : Fin 8) (0 : Fin 128)))
    have h1 : mag (acc m ρ q.1 7 (ix2 q.2 p.2)) ≤ b := h0 (ix2 q.2 p.2)
    rw [acc_last ρ H] at h1
    exact (congrArg (fun i => mag (prod X W i p.2)) hq).symm.le.trans h1
  · intro h i
    refine (hA i b).mpr fun j => ?_
    have h1 := h (row (i 0) (j 0), j 1)
    have h2 := acc_last ρ H (i 0) (j 0) (j 1)
    rw [← eq_ix2 j] at h2
    exact (congrArg mag h2).le.trans h1

/-- A device's result: its rows of the product, in steps of the product's largest magnitude over 127. -/
theorem outAt_apply (g : EReal) (hg : Largest (fun p : Fin 4096 × Fin 2048 => mag (prod X W p.1 p.2)) g) (c : Dev nD)
    (r : Fin 512) (n : Fin 2048) :
    outAt m ρ c (ix2 r n) = quant (Ideal.div g (Ideal.ofBits .f32 0x42FE0000#32)) (prod X W (row c r) n) := by
  obtain ⟨g', hg', h⟩ := pay13_apply (amAll m ρ) (acc m ρ c 7)
  rw [div_127, hg.unique (amAll_largest ρ H g' hg'), ← acc_last ρ H]
  exact h (ix2 r n)

end Cert.KProof
-- ==== Proof.Value.lean ====
/-
# The reference's result

The reference's operations, element by element, are those of the kernel on the whole product; so each device's result is
its rows of the reference's.
-/
module

public import proofs.«01_k».proof.Proof.Largest
public import proofs.«01_k».proof.Defs

@[expose] public section

noncomputable section

namespace Cert.KProof

open Cert.KernelIdeal Cert.KernelIdeal.Gen

open Idealize.ShloMosaic
open Idealize.ShloMosaic.TcCoe
open Idealize.SL.Sem

section

variable (X : FVec Ideal Cert.ReferenceIdeal.S4096x4096 .f32) (W : FVec Ideal Cert.ReferenceIdeal.S4096x2048 .f32)

/-- The reference's product. -/
abbrev refProd : FVec Ideal Cert.ReferenceIdeal.S4096x2048 .f32 :=
  Host.dotGeneral Cert.ReferenceIdeal.dot_S4096x4096_S4096x2048_S4096x2048_1_0_0_1_n_n none X W

/-- The reference's step. -/
abbrev refStep : FVec Ideal Cert.ReferenceIdeal.S_ .f32 :=
  Host.divf (Host.reduce FloatOps.maximumf (Host.absf (refProd X W)) (constant Cert.ReferenceIdeal.S_ .f32 0xFF800000#32)
    Cert.ReferenceIdeal.Gen.reducesTo_S4096x2048_S_d0_1 Cert.ReferenceIdeal.Gen.h_S_) (constant Cert.ReferenceIdeal.S_ .f32 0x42FE0000#32)

/-- The reference's result. -/
abbrev refOut : FVec Ideal Cert.ReferenceIdeal.S4096x2048 .f32 :=
  mulf (minimumf (broadcastInDim Cert.ReferenceIdeal.S4096x2048 ![] Cert.ReferenceIdeal.Gen.bcast_S_S4096x2048 (id (constant Cert.ReferenceIdeal.S_ .f32 0x42FE0000#32)))
    (maximumf (broadcastInDim Cert.ReferenceIdeal.S4096x2048 ![] Cert.ReferenceIdeal.Gen.bcast_S_S4096x2048 (id (constant Cert.ReferenceIdeal.S_ .f32 0xC2FE0000#32)))
      (Host.roundeven (Host.divf (refProd X W)
        (broadcastInDim Cert.ReferenceIdeal.S4096x2048 ![] Cert.ReferenceIdeal.Gen.bcast_S_S4096x2048 (refStep X W))))))
    (broadcastInDim Cert.ReferenceIdeal.S4096x2048 ![] Cert.ReferenceIdeal.Gen.bcast_S_S4096x2048 (refStep X W))

theorem refProd_apply (i : Fin 4096) (n : Fin 2048) : refProd X W (ix2 i n) = prod X W i n := by
  unfold prod
  pointwise [refProd]

/-- An array of no axes has one index. -/
theorem no_axes (j j' : Cert.ReferenceIdeal.S_.Idx) : j = j' := funext fun a => a.elim0

/-- The reference's step is the product's largest magnitude over 127. -/
theorem refStep_apply : ∃ g : EReal, Largest (fun p : Fin 4096 × Fin 2048 => mag (prod X W p.1 p.2)) g ∧
    ∀ j, refStep X W j = Ideal.div g (Ideal.ofBits .f32 0x42FE0000#32) := by
  have h := largest_reduce (Host.absf (refProd X W)) (constant (F := Ideal) Cert.ReferenceIdeal.S_ .f32 0xFF800000#32)
    (fun _ => bot_bits) Cert.ReferenceIdeal.Gen.reducesTo_S4096x2048_S_d0_1 Cert.ReferenceIdeal.Gen.h_S_ (fun b => b.elim0) (fun b : Fin 0 => b.elim0)
  refine ⟨_, fun b => (h b).trans ⟨fun h p => ?_, fun h j => ?_⟩, fun j => ?_⟩
  · have h1 : mag (refProd X W (ix2 p.1 p.2)) ≤ b := h (ix2 p.1 p.2)
    rw [refProd_apply] at h1
    exact h1
  · have h1 := refProd_apply X W (j 0) (j 1)
    rw [← eq_ix2 j] at h1
    exact (congrArg mag h1).le.trans (h (j 0, j 1))
  · rw [no_axes j fun b => b.elim0]
    rfl

/-- The reference's result: the product in such steps. -/
theorem refOut_apply : ∃ g : EReal, Largest (fun p : Fin 4096 × Fin 2048 => mag (prod X W p.1 p.2)) g ∧
    ∀ (i : Fin 4096) (n : Fin 2048), refOut X W (ix2 i n) = quant (Ideal.div g (Ideal.ofBits .f32 0x42FE0000#32)) (prod X W i n) := by
  obtain ⟨g, hg, hs⟩ := refStep_apply X W
  refine ⟨g, hg, fun i n => ?_⟩
  rw [← refProd_apply, ← hs fun b => b.elim0, refOut]
  have hb (v : FVec Ideal Cert.ReferenceIdeal.S_ .f32) (j : Cert.ReferenceIdeal.S4096x2048.Idx) :
      broadcastInDim Cert.ReferenceIdeal.S4096x2048 ![] Cert.ReferenceIdeal.Gen.bcast_S_S4096x2048 v j = v fun b => b.elim0 :=
    congrArg v (no_axes _ _)
  simp only [mulf, minimumf, maximumf, Host.roundeven, hb]
  generalize hS : refStep X W = S
  generalize hY : refProd X W = Y
  show FloatOps.mulf (F := Ideal) (φ := .f32) _ _ = _
  simp only [Host.divf, hb]
  rfl

end

/-- Each device's result is its rows of the reference's. -/
theorem outAt_eq {X : FVec Ideal Cert.ReferenceIdeal.S4096x4096 .f32} {W : FVec Ideal Cert.ReferenceIdeal.S4096x2048 .f32}
    {m : (ℓ : Loc nD τ sig) → Buf (Elt Ideal) ℓ} (ρ : Dev nD → PrngReg) (H : Held X W m) (c : Dev nD) :
    outAt m ρ c = Layout.block ⟨2, ![512, 2048]⟩ ⟨2, ![4096, 2048]⟩ 0 8 c (refOut X W) := by
  obtain ⟨g, hg, h⟩ := refOut_apply X W
  refine funext fun (j : S512x2048.Idx) => ?_
  have h1 := outAt_apply ρ H g hg c (j 0) (j 1)
  refine (congrArg (outAt m ρ c) (eq_ix2 j)).trans (h1.trans ((h (row c (j 0)) (j 1)).symm.trans ?_))
  rw [Layout.block_apply]
  refine congrArg (refOut X W) (funext fun a => Fin.ext ?_)
  match a with
  | 0 => show 512 * c.val + (j 0).val = c.val * 512 + (j 0).val; omega
  | 1 => rfl

/-- `Cert.algebraic_KernelIdeal_ReferenceIdeal`. -/
theorem equation : Cert.algebraic_KernelIdeal_ReferenceIdeal := fun m ρ m' ρ' _ hm => by
  have H : Held _ _ m := ⟨fun c => (hm c).1, fun c => (hm c).2⟩
  refine ⟨_, (θ_run Cert.KernelIdeal.defs _ _).mono (fun r h c => ⟨?_, ?_, ?_⟩) (run_main m ρ),
    (θ_run Cert.ReferenceIdeal.defs _ _).mono (fun r h => ⟨(h 0).1, (h 0).2.1, (h 0).2.2⟩) (Cert.ReferenceIdeal.Value.run (F := Ideal) m' ρ')⟩
  · exact ((h.1 c).1 (1 : Fin 2)).trans ((finalA_out m ρ c).trans (outAt_eq ρ H c))
  · exact ((h.1 c).1 (0 : Fin 2)).trans (finalA_x m ρ c)
  · exact (h.1 c).2

end Cert.KProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.frame_kernel, Cert.Frames.frame_kernelIdeal, Cert.Frames.frame_referenceIdeal, Cert.Frames.preserves_const,
  Cert.KProof.equation⟩

end Cert.Proof

end
